-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x7168 : Shape := ⟨3, ![4, 8192, 7168]⟩
abbrev S4x7168 : Shape := ⟨2, ![4, 7168]⟩
abbrev S4x10240 : Shape := ⟨2, ![4, 10240]⟩
abbrev S7168x10240 : Shape := ⟨2, ![7168, 10240]⟩
abbrev S10240 : Shape := ⟨1, ![10240]⟩
abbrev S32768x7168 : Shape := ⟨2, ![32768, 7168]⟩
abbrev S4x1x7168 : Shape := ⟨3, ![4, 1, 7168]⟩
abbrev S4x1x10240 : Shape := ⟨3, ![4, 1, 10240]⟩
abbrev S1x10240 : Shape := ⟨2, ![1, 10240]⟩
abbrev S32768x10240 : Shape := ⟨2, ![32768, 10240]⟩
abbrev S256x1x128 : Shape := ⟨3, ![256, 1, 128]⟩
abbrev S128x7168 : Shape := ⟨2, ![128, 7168]⟩
abbrev S1x1x7168 : Shape := ⟨3, ![1, 1, 7168]⟩
abbrev S1x1x1280 : Shape := ⟨3, ![1, 1, 1280]⟩
abbrev S7168x1280 : Shape := ⟨2, ![7168, 1280]⟩
abbrev S1x1280 : Shape := ⟨2, ![1, 1280]⟩
abbrev S1024x1280 : Shape := ⟨2, ![1024, 1280]⟩
abbrev S1x1x128 : Shape := ⟨3, ![1, 1, 128]⟩
abbrev S2x1024x7168 : Shape := ⟨3, ![2, 1024, 7168]⟩
abbrev S2x1024x128 : Shape := ⟨3, ![2, 1024, 128]⟩
abbrev S32x128 : Shape := ⟨2, ![32, 128]⟩
abbrev S32 : Shape := ⟨1, ![32]⟩
abbrev S32x1 : Shape := ⟨2, ![32, 1]⟩
abbrev S1x7168 : Shape := ⟨2, ![1, 7168]⟩
abbrev S1x128 : Shape := ⟨2, ![1, 128]⟩
abbrev S1x256 : Shape := ⟨2, ![1, 256]⟩
abbrev S32x256 : Shape := ⟨2, ![32, 256]⟩
abbrev S1x1024x7168 : Shape := ⟨3, ![1, 1024, 7168]⟩
abbrev S1024x7168 : Shape := ⟨2, ![1024, 7168]⟩
abbrev S1x32x128 : Shape := ⟨3, ![1, 32, 128]⟩
abbrev S128 : Shape := ⟨1, ![128]⟩
abbrev S1x1024x128 : Shape := ⟨3, ![1, 1024, 128]⟩
abbrev S1024x128 : Shape := ⟨2, ![1024, 128]⟩

abbrev nBuf : Space → Nat
  | .hbm => 16
  | .vmem => 22
  | .smem => 0
  | _ => 0

abbrev bufTy : (tb : Table) → Fin (tcTables nBuf tb) → BufTy
  | .hbm, ⟨0, _⟩ => ⟨S4x8192x7168, .bf16⟩
  | .hbm, ⟨1, _⟩ => ⟨S4x7168, .bf16⟩
  | .hbm, ⟨2, _⟩ => ⟨S4x7168, .bf16⟩
  | .hbm, ⟨3, _⟩ => ⟨S4x10240, .bf16⟩
  | .hbm, ⟨4, _⟩ => ⟨S7168x10240, .fp8e4m3⟩
  | .hbm, ⟨5, _⟩ => ⟨S10240, .f32⟩
  | .hbm, ⟨6, _⟩ => ⟨S10240, .bf16⟩
  | .hbm, ⟨7, _⟩ => ⟨S32768x7168, .bf16⟩
  | .hbm, ⟨8, _⟩ => ⟨S4x1x7168, .bf16⟩
  | .hbm, ⟨9, _⟩ => ⟨S4x1x7168, .bf16⟩
  | .hbm, ⟨10, _⟩ => ⟨S4x1x10240, .bf16⟩
  | .hbm, ⟨11, _⟩ => ⟨S1x10240, .f32⟩
  | .hbm, ⟨12, _⟩ => ⟨S1x10240, .bf16⟩
  | .hbm, ⟨13, _⟩ => ⟨S32768x10240, .bf16⟩
  | .hbm, ⟨14, _⟩ => ⟨S32768x7168, .fp8e4m3⟩
  | .hbm, ⟨15, _⟩ => ⟨S256x1x128, .f32⟩
  | .local _ .vmem, ⟨0, _⟩ => ⟨S128x7168, .bf16⟩
  | .local _ .vmem, ⟨1, _⟩ => ⟨S128x7168, .bf16⟩
  | .local _ .vmem, ⟨2, _⟩ => ⟨S1x1x7168, .bf16⟩
  | .local _ .vmem, ⟨3, _⟩ => ⟨S1x1x7168, .bf16⟩
  | .local _ .vmem, ⟨4, _⟩ => ⟨S1x1x7168, .bf16⟩
  | .local _ .vmem, ⟨5, _⟩ => ⟨S1x1x7168, .bf16⟩
  | .local _ .vmem, ⟨6, _⟩ => ⟨S1x1x1280, .bf16⟩
  | .local _ .vmem, ⟨7, _⟩ => ⟨S1x1x1280, .bf16⟩
  | .local _ .vmem, ⟨8, _⟩ => ⟨S7168x1280, .fp8e4m3⟩
  | .local _ .vmem, ⟨9, _⟩ => ⟨S7168x1280, .fp8e4m3⟩
  | .local _ .vmem, ⟨10, _⟩ => ⟨S1x1280, .f32⟩
  | .local _ .vmem, ⟨11, _⟩ => ⟨S1x1280, .f32⟩
  | .local _ .vmem, ⟨12, _⟩ => ⟨S1x1280, .bf16⟩
  | .local _ .vmem, ⟨13, _⟩ => ⟨S1x1280, .bf16⟩
  | .local _ .vmem, ⟨14, _⟩ => ⟨S1024x1280, .bf16⟩
  | .local _ .vmem, ⟨15, _⟩ => ⟨S1024x1280, .bf16⟩
  | .local _ .vmem, ⟨16, _⟩ => ⟨S128x7168, .fp8e4m3⟩
  | .local _ .vmem, ⟨17, _⟩ => ⟨S128x7168, .fp8e4m3⟩
  | .local _ .vmem, ⟨18, _⟩ => ⟨S1x1x128, .f32⟩
  | .local _ .vmem, ⟨19, _⟩ => ⟨S1x1x128, .f32⟩
  | .local _ .vmem, ⟨20, _⟩ => ⟨S2x1024x7168, .fp8e4m3⟩
  | .local _ .vmem, ⟨21, _⟩ => ⟨S2x1024x128, .f32⟩
  | _, _ => ⟨S4x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![33, 8], ![false, false]⟩

@[reducible] def k0_t1_loop : Scf.Loop 32 :=
  let c0_i32 : BitVec 32 := 0#32
  let c4_i32 : BitVec 32 := 4#32
  let v2 : BitVec 32 := Scalar.addi c0_i32 c4_i32
  let c1_i32_0 : BitVec 32 := 1#32
  ⟨c0_i32, v2, c1_i32_0⟩
def k0_mult1 (k0_t1 : Fin k0_t1_loop.trips) : BitVec 32 :=
  let c0_i32 : BitVec 32 := 0#32
  let c1_i32_0 : BitVec 32 := 1#32
  let arg14 : BitVec 32 := Scf.iv c0_i32 c1_i32_0 k0_t1
  let c32_i32 : BitVec 32 := 32#32
  let v6 : BitVec 32 := Scalar.muli arg14 c32_i32
  v6
def k0_mult2 (i : grid0.Coords) (k0_t1 : Fin k0_t1_loop.trips) : BitVec 32 :=
  let arg1 : BitVec 32 := BitVec.ofNat 32 (i 1).val
  let c128_i32 : BitVec 32 := 128#32
  let v8 : BitVec 32 := Scalar.muli arg1 c128_i32
  let c0_i32 : BitVec 32 := 0#32
  let c1_i32_0 : BitVec 32 := 1#32
  let arg14 : BitVec 32 := Scf.iv c0_i32 c1_i32_0 k0_t1
  let c32_i32 : BitVec 32 := 32#32
  let v6 : BitVec 32 := Scalar.muli arg14 c32_i32
  let v7 : BitVec 32 := v6
  let v9 : BitVec 32 := Scalar.addi v8 v7
  v9
def k0_off1 (k0_t1 : Fin k0_t1_loop.trips) : Fin 2 → Nat :=
  let c0_i32 : BitVec 32 := 0#32
  let c1_i32_0 : BitVec 32 := 1#32
  let arg14 : BitVec 32 := Scf.iv c0_i32 c1_i32_0 k0_t1
  let c32_i32 : BitVec 32 := 32#32
  let v6 : BitVec 32 := Scalar.muli arg14 c32_i32
  let v7 : BitVec 32 := v6
  let v11 : Index := Scalar.indexCast v7
  let c0 : Index := 0#32
  ![v11.toNat, 0]
@[reducible] def k0_t2_loop : Scf.Loop 32 :=
  let c1_i32_4 : BitVec 32 := 1#32
  let c55_i32 : BitVec 32 := 55#32
  let v15 : BitVec 32 := Scalar.addi c1_i32_4 c55_i32
  let c1_i32_5 : BitVec 32 := 1#32
  ⟨c1_i32_4, v15, c1_i32_5⟩
def k0_mult3 (k0_t2 : Fin k0_t2_loop.trips) : BitVec 32 :=
  let c1_i32_4 : BitVec 32 := 1#32
  let c1_i32_5 : BitVec 32 := 1#32
  let arg15 : BitVec 32 := Scf.iv c1_i32_4 c1_i32_5 k0_t2
  let c128_i32_58 : BitVec 32 := 128#32
  let v130 : BitVec 32 := Scalar.muli arg15 c128_i32_58
  v130
def k0_off2 (k0_t1 : Fin k0_t1_loop.trips) (k0_t2 : Fin k0_t2_loop.trips) : Fin 2 → Nat :=
  let c0_i32 : BitVec 32 := 0#32
  let c1_i32_0 : BitVec 32 := 1#32
  let arg14 : BitVec 32 := Scf.iv c0_i32 c1_i32_0 k0_t1
  let c32_i32 : BitVec 32 := 32#32
  let v6 : BitVec 32 := Scalar.muli arg14 c32_i32
  let v7 : BitVec 32 := v6
  let v132 : Index := Scalar.indexCast v7
  let c1_i32_4 : BitVec 32 := 1#32
  let c1_i32_5 : BitVec 32 := 1#32
  let arg15 : BitVec 32 := Scf.iv c1_i32_4 c1_i32_5 k0_t2
  let c128_i32_58 : BitVec 32 := 128#32
  let v130 : BitVec 32 := Scalar.muli arg15 c128_i32_58
  let v131 : BitVec 32 := v130
  let v133 : Index := Scalar.indexCast v131
  ![v132.toNat, v133.toNat]
@[reducible] def k0_t3_loop : Scf.Loop 32 :=
  let c1_i32_9 : BitVec 32 := 1#32
  let c55_i32_10 : BitVec 32 := 55#32
  let v28 : BitVec 32 := Scalar.addi c1_i32_9 c55_i32_10
  let c1_i32_11 : BitVec 32 := 1#32
  ⟨c1_i32_9, v28, c1_i32_11⟩
def k0_mult4 (k0_t3 : Fin k0_t3_loop.trips) : BitVec 32 :=
  let c1_i32_9 : BitVec 32 := 1#32
  let c1_i32_11 : BitVec 32 := 1#32
  let arg15 : BitVec 32 := Scf.iv c1_i32_9 c1_i32_11 k0_t3
  let c128_i32_58 : BitVec 32 := 128#32
  let v130 : BitVec 32 := Scalar.muli arg15 c128_i32_58
  v130
def k0_off3 (k0_t1 : Fin k0_t1_loop.trips) (k0_t3 : Fin k0_t3_loop.trips) : Fin 2 → Nat :=
  let c0_i32 : BitVec 32 := 0#32
  let c1_i32_0 : BitVec 32 := 1#32
  let arg14 : BitVec 32 := Scf.iv c0_i32 c1_i32_0 k0_t1
  let c32_i32 : BitVec 32 := 32#32
  let v6 : BitVec 32 := Scalar.muli arg14 c32_i32
  let v7 : BitVec 32 := v6
  let v132 : Index := Scalar.indexCast v7
  let c1_i32_9 : BitVec 32 := 1#32
  let c1_i32_11 : BitVec 32 := 1#32
  let arg15 : BitVec 32 := Scf.iv c1_i32_9 c1_i32_11 k0_t3
  let c128_i32_58 : BitVec 32 := 128#32
  let v130 : BitVec 32 := Scalar.muli arg15 c128_i32_58
  let v131 : BitVec 32 := v130
  let v133 : Index := Scalar.indexCast v131
  ![v132.toNat, v133.toNat]
@[reducible] def k0_t4_loop : Scf.Loop 32 :=
  let c1_i32_30 : BitVec 32 := 1#32
  let c55_i32_31 : BitVec 32 := 55#32
  let v62 : BitVec 32 := Scalar.addi c1_i32_30 c55_i32_31
  let c1_i32_32 : BitVec 32 := 1#32
  ⟨c1_i32_30, v62, c1_i32_32⟩
def k0_mult5 (k0_t4 : Fin k0_t4_loop.trips) : BitVec 32 :=
  let c1_i32_30 : BitVec 32 := 1#32
  let c1_i32_32 : BitVec 32 := 1#32
  let arg15 : BitVec 32 := Scf.iv c1_i32_30 c1_i32_32 k0_t4
  let c128_i32_58 : BitVec 32 := 128#32
  let v130 : BitVec 32 := Scalar.muli arg15 c128_i32_58
  v130
def k0_off4 (k0_t1 : Fin k0_t1_loop.trips) (k0_t4 : Fin k0_t4_loop.trips) : Fin 2 → Nat :=
  let c0_i32 : BitVec 32 := 0#32
  let c1_i32_0 : BitVec 32 := 1#32
  let arg14 : BitVec 32 := Scf.iv c0_i32 c1_i32_0 k0_t1
  let c32_i32 : BitVec 32 := 32#32
  let v6 : BitVec 32 := Scalar.muli arg14 c32_i32
  let v7 : BitVec 32 := v6
  let v132 : Index := Scalar.indexCast v7
  let c1_i32_30 : BitVec 32 := 1#32
  let c1_i32_32 : BitVec 32 := 1#32
  let arg15 : BitVec 32 := Scf.iv c1_i32_30 c1_i32_32 k0_t4
  let c128_i32_58 : BitVec 32 := 128#32
  let v130 : BitVec 32 := Scalar.muli arg15 c128_i32_58
  let v131 : BitVec 32 := v130
  let v133 : Index := Scalar.indexCast v131
  ![v132.toNat, v133.toNat]
def k0_off5 (k0_t4 : Fin k0_t4_loop.trips) : Fin 2 → Nat :=
  let c0_61 : Index := 0#32
  let c1_i32_30 : BitVec 32 := 1#32
  let c1_i32_32 : BitVec 32 := 1#32
  let arg15 : BitVec 32 := Scf.iv c1_i32_30 c1_i32_32 k0_t4
  let c128_i32_58 : BitVec 32 := 128#32
  let v130 : BitVec 32 := Scalar.muli arg15 c128_i32_58
  let v131 : BitVec 32 := v130
  let v143 : Index := Scalar.indexCast v131
  ![0, v143.toNat]
@[reducible] def k0_t5_loop : Scf.Loop 32 :=
  let c0_i32_46 : BitVec 32 := 0#32
  let c56_i32 : BitVec 32 := 56#32
  let v102 : BitVec 32 := Scalar.addi c0_i32_46 c56_i32
  let c1_i32_47 : BitVec 32 := 1#32
  ⟨c0_i32_46, v102, c1_i32_47⟩
def k0_mult6 (k0_t5 : Fin k0_t5_loop.trips) : BitVec 32 :=
  let c0_i32_46 : BitVec 32 := 0#32
  let c1_i32_47 : BitVec 32 := 1#32
  let arg15 : BitVec 32 := Scf.iv c0_i32_46 c1_i32_47 k0_t5
  let c128_i32_58 : BitVec 32 := 128#32
  let v130 : BitVec 32 := Scalar.muli arg15 c128_i32_58
  v130
def k0_off6 (k0_t1 : Fin k0_t1_loop.trips) (k0_t5 : Fin k0_t5_loop.trips) : Fin 2 → Nat :=
  let c0_i32 : BitVec 32 := 0#32
  let c1_i32_0 : BitVec 32 := 1#32
  let arg14 : BitVec 32 := Scf.iv c0_i32 c1_i32_0 k0_t1
  let c32_i32 : BitVec 32 := 32#32
  let v6 : BitVec 32 := Scalar.muli arg14 c32_i32
  let v7 : BitVec 32 := v6
  let v132 : Index := Scalar.indexCast v7
  let c0_i32_46 : BitVec 32 := 0#32
  let c1_i32_47 : BitVec 32 := 1#32
  let arg15 : BitVec 32 := Scf.iv c0_i32_46 c1_i32_47 k0_t5
  let c128_i32_58 : BitVec 32 := 128#32
  let v130 : BitVec 32 := Scalar.muli arg15 c128_i32_58
  let v131 : BitVec 32 := v130
  let v133 : Index := Scalar.indexCast v131
  ![v132.toNat, v133.toNat]
def k0_off7 (k0_t5 : Fin k0_t5_loop.trips) : Fin 2 → Nat :=
  let c0_61 : Index := 0#32
  let c0_i32_46 : BitVec 32 := 0#32
  let c1_i32_47 : BitVec 32 := 1#32
  let arg15 : BitVec 32 := Scf.iv c0_i32_46 c1_i32_47 k0_t5
  let c128_i32_58 : BitVec 32 := 128#32
  let v130 : BitVec 32 := Scalar.muli arg15 c128_i32_58
  let v131 : BitVec 32 := v130
  let v143 : Index := Scalar.indexCast v131
  ![0, v143.toNat]
def k0_off8 (i : grid0.Coords) : Fin 3 → Nat :=
  let arg0 : BitVec 32 := BitVec.ofNat 32 (i 0).val
  let c2_i32 : BitVec 32 := 2#32
  let v0 : BitVec 32 := Scalar.remsi arg0 c2_i32
  let c0_i32_68 : BitVec 32 := 0#32
  let c0_i32_69 : BitVec 32 := 0#32
  ![v0.toNat, 0, 0]
def k0_off9 (i : grid0.Coords) (k0_t1 : Fin k0_t1_loop.trips) (k0_t5 : Fin k0_t5_loop.trips) : Fin 2 → Nat :=
  let arg1 : BitVec 32 := BitVec.ofNat 32 (i 1).val
  let c128_i32 : BitVec 32 := 128#32
  let v8 : BitVec 32 := Scalar.muli arg1 c128_i32
  let c0_i32 : BitVec 32 := 0#32
  let c1_i32_0 : BitVec 32 := 1#32
  let arg14 : BitVec 32 := Scf.iv c0_i32 c1_i32_0 k0_t1
  let c32_i32 : BitVec 32 := 32#32
  let v6 : BitVec 32 := Scalar.muli arg14 c32_i32
  let v7 : BitVec 32 := v6
  let v9 : BitVec 32 := Scalar.addi v8 v7
  let v10 : BitVec 32 := v9
  let v168 : Index := Scalar.indexCast v10
  let c0_i32_46 : BitVec 32 := 0#32
  let c1_i32_47 : BitVec 32 := 1#32
  let arg15 : BitVec 32 := Scf.iv c0_i32_46 c1_i32_47 k0_t5
  let c128_i32_58 : BitVec 32 := 128#32
  let v130 : BitVec 32 := Scalar.muli arg15 c128_i32_58
  let v131 : BitVec 32 := v130
  let v169 : Index := Scalar.indexCast v131
  ![v168.toNat, v169.toNat]
def k0_off10 (i : grid0.Coords) (k0_t1 : Fin k0_t1_loop.trips) (k0_t5 : Fin k0_t5_loop.trips) : Fin 3 → Nat :=
  let arg0 : BitVec 32 := BitVec.ofNat 32 (i 0).val
  let c2_i32 : BitVec 32 := 2#32
  let v0 : BitVec 32 := Scalar.remsi arg0 c2_i32
  let arg1 : BitVec 32 := BitVec.ofNat 32 (i 1).val
  let c128_i32 : BitVec 32 := 128#32
  let v8 : BitVec 32 := Scalar.muli arg1 c128_i32
  let c0_i32 : BitVec 32 := 0#32
  let c1_i32_0 : BitVec 32 := 1#32
  let arg14 : BitVec 32 := Scf.iv c0_i32 c1_i32_0 k0_t1
  let c32_i32 : BitVec 32 := 32#32
  let v6 : BitVec 32 := Scalar.muli arg14 c32_i32
  let v7 : BitVec 32 := v6
  let v9 : BitVec 32 := Scalar.addi v8 v7
  let v10 : BitVec 32 := v9
  let v168 : Index := Scalar.indexCast v10
  let c0_i32_46 : BitVec 32 := 0#32
  let c1_i32_47 : BitVec 32 := 1#32
  let arg15 : BitVec 32 := Scf.iv c0_i32_46 c1_i32_47 k0_t5
  let c128_i32_58 : BitVec 32 := 128#32
  let v130 : BitVec 32 := Scalar.muli arg15 c128_i32_58
  let v131 : BitVec 32 := v130
  let v169 : Index := Scalar.indexCast v131
  ![v0.toNat, v168.toNat, v169.toNat]
def k0_off11 (i : grid0.Coords) (k0_t1 : Fin k0_t1_loop.trips) : Fin 3 → Nat :=
  let arg0 : BitVec 32 := BitVec.ofNat 32 (i 0).val
  let c2_i32 : BitVec 32 := 2#32
  let v0 : BitVec 32 := Scalar.remsi arg0 c2_i32
  let v110 : Index := Scalar.indexCast v0
  let arg1 : BitVec 32 := BitVec.ofNat 32 (i 1).val
  let c128_i32 : BitVec 32 := 128#32
  let v8 : BitVec 32 := Scalar.muli arg1 c128_i32
  let c0_i32 : BitVec 32 := 0#32
  let c1_i32_0 : BitVec 32 := 1#32
  let arg14 : BitVec 32 := Scf.iv c0_i32 c1_i32_0 k0_t1
  let c32_i32 : BitVec 32 := 32#32
  let v6 : BitVec 32 := Scalar.muli arg14 c32_i32
  let v7 : BitVec 32 := v6
  let v9 : BitVec 32 := Scalar.addi v8 v7
  let v10 : BitVec 32 := v9
  let v111 : Index := Scalar.indexCast v10
  let c0_51 : Index := 0#32
  ![v110.toNat, v111.toNat, 0]
def k0_cond3 (i : grid0.Coords) : BitVec 1 :=
  let arg0 : BitVec 32 := BitVec.ofNat 32 (i 0).val
  let c0_i32_2 : BitVec 32 := 0#32
  let v3 : BitVec 1 := Scalar.cmpi .sgt arg0 c0_i32_2
  let v4 : BitVec 32 := Scalar.extui v3
  let c0_i32_3 : BitVec 32 := 0#32
  let v5 : BitVec 1 := Scalar.cmpi .ne v4 c0_i32_3
  v5

def k0_off12 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v6 : Index := Scalar.indexCast v1
  let c0 : Index := 0#32
  let c0_4 : Index := 0#32
  ![v6.toNat, 0, 0]
def k0_off13 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v11 : Index := Scalar.indexCast v1
  let c0_7 : Index := 0#32
  let c0_8 : Index := 0#32
  ![v11.toNat, 0, 0]
def k0_cond1 (k0_t1 : Fin k0_t1_loop.trips) : BitVec 1 :=
  let c0_i32 : BitVec 32 := 0#32
  let c1_i32_0 : BitVec 32 := 1#32
  let arg14 : BitVec 32 := Scf.iv c0_i32 c1_i32_0 k0_t1
  let c0_i32_54 : BitVec 32 := 0#32
  let v124 : BitVec 1 := Scalar.cmpi .eq arg14 c0_i32_54
  let v125 : BitVec 32 := Scalar.extui v124
  let c0_i32_55 : BitVec 32 := 0#32
  let v126 : BitVec 1 := Scalar.cmpi .ne v125 c0_i32_55
  v126

def k0_cond2 (k0_t1 : Fin k0_t1_loop.trips) : BitVec 1 :=
  let c0_i32 : BitVec 32 := 0#32
  let c1_i32_0 : BitVec 32 := 1#32
  let arg14 : BitVec 32 := Scf.iv c0_i32 c1_i32_0 k0_t1
  let c0_i32_56 : BitVec 32 := 0#32
  let v127 : BitVec 1 := Scalar.cmpi .sgt arg14 c0_i32_56
  let v128 : BitVec 32 := Scalar.extui v127
  let c0_i32_57 : BitVec 32 := 0#32
  let v129 : BitVec 1 := Scalar.cmpi .ne v128 c0_i32_57
  v129

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c255_i32 : BitVec 32 := 255#32
  let v2 : BitVec 32 := Scalar.minsi v1 c255_i32
  let c64_i32 : BitVec 32 := 64#32
  let v3 : BitVec 32 := Scalar.divsi v2 c64_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  let c0_i32_6 : BitVec 32 := 0#32
  ![v19.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c255_i32 : BitVec 32 := 255#32
  let v2 : BitVec 32 := Scalar.minsi v1 c255_i32
  let c64_i32 : BitVec 32 := 64#32
  let v3 : BitVec 32 := Scalar.divsi v2 c64_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let v19 : BitVec 1 := Scalar.cmpi .eq arg0 c0_i32_6
  let c0_i32_7 : BitVec 32 := 0#32
  let v20 : BitVec 32 := Scalar.select v19 c0_i32_7 arg1
  let c0_i32_8 : BitVec 32 := 0#32
  let c0_i32_9 : BitVec 32 := 0#32
  ![v18.toNat, c0_i32_8.toNat, v20.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S7168x1280 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x7168 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "inv_d" => some ((1 / 7168 : ℝ) : EReal)
  | _ => none
-- ==== ReferenceIdeal.lean ====
abbrev S4x8192x7168 : Shape := ⟨3, ![4, 8192, 7168]⟩
abbrev S4x7168 : Shape := ⟨2, ![4, 7168]⟩
abbrev S4x10240 : Shape := ⟨2, ![4, 10240]⟩
abbrev S7168x10240 : Shape := ⟨2, ![7168, 10240]⟩
abbrev S10240 : Shape := ⟨1, ![10240]⟩
abbrev S32768x10240 : Shape := ⟨2, ![32768, 10240]⟩
abbrev S32768x7168 : Shape := ⟨2, ![32768, 7168]⟩
abbrev S256x1x128 : Shape := ⟨3, ![256, 1, 128]⟩
abbrev S4x8192 : Shape := ⟨2, ![4, 8192]⟩
abbrev S4x8192x1 : Shape := ⟨3, ![4, 8192, 1]⟩
abbrev S4x1x7168 : Shape := ⟨3, ![4, 1, 7168]⟩
abbrev S1x1x252 : Shape := ⟨3, ![1, 1, 252]⟩
abbrev S4x8192x252 : Shape := ⟨3, ![4, 8192, 252]⟩
abbrev S4x8192x10240 : Shape := ⟨3, ![4, 8192, 10240]⟩
abbrev S1x1x10240 : Shape := ⟨3, ![1, 1, 10240]⟩
abbrev S4x1x10240 : Shape := ⟨3, ![4, 1, 10240]⟩

abbrev nBuf : Space → Nat
  | .hbm => 10
  | .vmem => 10
  | .smem => 0
  | _ => 0

abbrev bufTy : (tb : Table) → Fin (tcTables nBuf tb) → BufTy
  | .hbm, ⟨0, _⟩ => ⟨S4x8192x7168, .bf16⟩
  | .hbm, ⟨1, _⟩ => ⟨S4x7168, .bf16⟩
  | .hbm, ⟨2, _⟩ => ⟨S4x7168, .bf16⟩
  | .hbm, ⟨3, _⟩ => ⟨S4x10240, .bf16⟩
  | .hbm, ⟨4, _⟩ => ⟨S7168x10240, .fp8e4m3⟩
  | .hbm, ⟨5, _⟩ => ⟨S10240, .f32⟩
  | .hbm, ⟨6, _⟩ => ⟨S10240, .bf16⟩
  | .hbm, ⟨7, _⟩ => ⟨S32768x10240, .bf16⟩
  | .hbm, ⟨8, _⟩ => ⟨S32768x7168, .fp8e4m3⟩
  | .hbm, ⟨9, _⟩ => ⟨S256x1x128, .f32⟩
  | .local _ .vmem, ⟨0, _⟩ => ⟨S4x8192x7168, .bf16⟩
  | .local _ .vmem, ⟨1, _⟩ => ⟨S4x7168, .bf16⟩
  | .local _ .vmem, ⟨2, _⟩ => ⟨S4x7168, .bf16⟩
  | .local _ .vmem, ⟨3, _⟩ => ⟨S4x10240, .bf16⟩
  | .local _ .vmem, ⟨4, _⟩ => ⟨S7168x10240, .fp8e4m3⟩
  | .local _ .vmem, ⟨5, _⟩ => ⟨S10240, .f32⟩
  | .local _ .vmem, ⟨6, _⟩ => ⟨S10240, .bf16⟩
  | .local _ .vmem, ⟨7, _⟩ => ⟨S32768x10240, .bf16⟩
  | .local _ .vmem, ⟨8, _⟩ => ⟨S32768x7168, .fp8e4m3⟩
  | .local _ .vmem, ⟨9, _⟩ => ⟨S256x1x128, .f32⟩
  | _, _ => ⟨S4x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x10240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x10240 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10240 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x10240 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.Columns.lean ====
module

public import proofs.«01_k».proof.Proof.Gen.Kernel.Frame
public import proofs.«01_k».proof.Proof.Gen.Kernel.Loops
public import Idealize.ShloMosaic.Lib.Pointwise

@[expose] public section

set_option maxRecDepth 8192
set_option maxHeartbeats 400000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The 32 rows of group `g` and the 128 columns of block `k` of a chunk of 128 rows. -/
def blk (B : Vec F S128x7168 .bf16) (g k : ℕ) : Vec F S32x128 .bf16 := fun j =>
  B (ix2 ⟨(32 * g + (j 0).val) % 128, Nat.mod_lt _ (by decide)⟩ ⟨(128 * k + (j 1).val) % 7168, Nat.mod_lt _ (by decide)⟩)

/-- The 128 columns of block `k` of a row. -/
def rowBlk (B : Vec F S1x1x7168 .bf16) (k : ℕ) : Vec F S1x128 .bf16 := fun j =>
  B (ix3 0 0 ⟨(128 * k + (j 1).val) % 7168, Nat.mod_lt _ (by decide)⟩)

/-- The running total of a group's column blocks. -/
def totFrom (init : FVec F S32x128 .f32) (B : Vec F S128x7168 .bf16) (g : ℕ) : ℕ → FVec F S32x128 .f32
  | 0 => init
  | k + 1 => k0_pay9 (totFrom init B g k) (blk B g (k + 1))

/-- The running sum of a group's squared deviations. -/
def sqFrom (v16 init : FVec F S32x128 .f32) (B : Vec F S128x7168 .bf16) (g : ℕ) : ℕ → FVec F S32x128 .f32
  | 0 => init
  | k + 1 => k0_pay12 v16 (sqFrom v16 init B g k) (blk B g (k + 1))

/-- The running maximum of a group's modulated values in absolute value. -/
def maxFrom (v20 v36 : FVec F S32x1 .f32) (init : FVec F S32x128 .f32) (B : Vec F S128x7168 .bf16) (S H : Vec F S1x1x7168 .bf16) (g : ℕ) :
    ℕ → FVec F S32x128 .f32
  | 0 => init
  | k + 1 => k0_pay16 v20 v36 (maxFrom v20 v36 init B S H g k) (blk B g (k + 1)) (rowBlk S (k + 1)) (rowBlk H (k + 1))

theorem trips_t1 : k0_t1_loop.trips = 4 := by rfl
theorem trips_t2 : k0_t2_loop.trips = 55 := by rfl
theorem trips_t3 : k0_t3_loop.trips = 55 := by rfl
theorem trips_t4 : k0_t4_loop.trips = 55 := by rfl
theorem trips_t5 : k0_t5_loop.trips = 56 := by rfl

/-- A window of a chunk at a group's rows and a block's columns is that block. -/
theorem ld_blk (B : Vec F S128x7168 .bf16) (off : Fin 2 → ℕ) (inb : ∀ a, off a + S32x128.size a ≤ S128x7168.size a) (g k : ℕ)
    (h0 : off 0 = 32 * g) (h1 : off 1 = 128 * k) :
    View.ld B (Rect.unit (s := S128x7168) off S32x128.size inb) = blk B g k := by
  funext j
  have e0 := inb 0
  have e1 := inb 1
  have b0 : (j 0).val < 32 := (j 0).isLt
  have b1 : (j 1).val < 128 := (j 1).isLt
  change off 0 + 32 ≤ 128 at e0
  change off 1 + 128 ≤ 7168 at e1
  refine congrArg B (funext fun a => Fin.ext ?_)
  fin_cases a
  · show off 0 + 1 * (j 0).val = (32 * g + (j 0).val) % 128
    rw [Nat.mod_eq_of_lt (by omega)]; omega
  · show off 1 + 1 * (j 1).val = (128 * k + (j 1).val) % 7168
    rw [Nat.mod_eq_of_lt (by omega)]; omega

/-- A load of a chunk at a group's rows and a block's columns reads that block. -/
theorem readAt_blk (arg2 : Memref sig .tc .vmem S128x7168 .bf16) (X2 : BufTy.Contents (Elt F) arg2.view.ty) {off : Fin 2 → ℕ}
    (inb : ∀ a, off a + S32x128.size a ≤ S128x7168.size a) (g k : ℕ) (h : off = ![32 * g, 128 * k]) :
    View.readAt (Elt F) arg2.view (Rect.unit (s := S128x7168) off S32x128.size inb).toLoadRect X2 = blk (arg2.view.read (Elt F) X2) g k :=
  ld_blk _ off inb g k (by rw [h]; rfl) (by rw [h]; rfl)

/-- A load of a per-sample row at a block's columns, through the row's two-dimensional view, reads that block. -/
theorem readAt_row (m : Memref sig .tc .vmem S1x1x7168 .bf16) (X : BufTy.Contents (Elt F) m.view.ty) {off : Fin 2 → ℕ}
    (inb : ∀ a, off a + S1x128.size a ≤ S1x7168.size a) (k : ℕ) (h : off = ![0, 128 * k]) :
    View.readAt (Elt F) ((m.slice (Rect.unit (s := S1x1x7168) ![0, 0, 0] S1x1x7168.size inb_S1x1x7168_S1x1x7168_0_0_0) (fun _ => rfl)).squeeze
      S1x7168 squeezes_S1x1x7168_S1x7168).view (Rect.unit (s := S1x7168) off S1x128.size inb).toLoadRect X = rowBlk (m.view.read (Elt F) X) k := by
  subst h
  funext j
  have e0 : (Rect.unit (s := S1x1x7168) ![0, 0, 0] S1x1x7168.size inb_S1x1x7168_S1x1x7168_0_0_0).emb
      (Shape.reshapeEquiv squeezes_S1x1x7168_S1x7168.numel_eq ((Rect.unit (s := S1x7168) ![0, 128 * k] S1x128.size inb).emb j))
      = Shape.reshapeEquiv squeezes_S1x1x7168_S1x7168.numel_eq ((Rect.unit (s := S1x7168) ![0, 128 * k] S1x128.size inb).emb j) := by
    refine funext fun a => Fin.ext ?_
    fin_cases a <;> (show 0 + 1 * _ = _; rw [Nat.zero_add, Nat.one_mul])
  refine (congrArg (m.view.read (Elt F) X) e0).trans ?_
  have e1 := inb 1
  have b0 : (j 0).val < 1 := (j 0).isLt
  have b1 : (j 1).val < 128 := (j 1).isLt
  change 128 * k + 128 ≤ 7168 at e1
  refine congrArg (m.view.read (Elt F) X) (Shape.reshapeEquiv_eq_of_vals _ _ _ (128 * k + (j 1).val) (128 * k + (j 1).val) ?_ ?_ rfl)
  · rw [Idealize.ShloMosaic.rowMajor_val3 _ 7168 7168 rfl rfl]
    show 0 * 7168 + 0 * 7168 + (128 * k + (j 1).val) % 7168 = _
    rw [Nat.mod_eq_of_lt (by omega)]; omega
  · rw [Idealize.ShloMosaic.rowMajor_val2 _ 7168 rfl]
    show (0 + 1 * (j 0).val) * 7168 + (128 * k + 1 * (j 1).val) = _
    omega

set_option warn.classDefReducibility false in
/-- The first column loop carries the running total. -/
@[sl_loop] def inv_t2 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (arg1 c0_i32 c1_i32_0 : BitVec 32) (k0_t1 : Fin k0_t1_loop.trips) (init : FVec F S32x128 .f32)
    (X2 : BufTy.Contents (Elt F) arg2.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 c0_i32 c1_i32_0 k0_t1 init where
  inv k acc := iprop((arg2.view.loc (c : Thread nD τ) ↦[arg2.view.set]{fullShare} X2) ∗ ⌜acc = totFrom init (arg2.view.read (Elt F) X2) k0_t1.val k⌝)
  step k acc := by
    iintro ⟨H2, %h⟩
    subst h
    unfold k0_t2_body
    have e : k0_pay9 (totFrom init (arg2.view.read (Elt F) X2) k0_t1.val k.val)
        (View.readAt (Elt F) arg2.view (Rect.unit (s := S128x7168) (k0_off2 k0_t1 k) S32x128.size (k0_off2_inb k0_t1 k)).toLoadRect X2)
        = totFrom init (arg2.view.read (Elt F) X2) k0_t1.val (k.val + 1) := by
      rw [readAt_blk arg2 X2 _ k0_t1.val (k.val + 1) (by rw [k0_off2_eq]; rfl)]; rfl
    sl_exec
    sl_step
    sl_close

set_option warn.classDefReducibility false in
/-- The second column loop carries the running sum of squares. -/
@[sl_loop] def inv_t3 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (arg1 c0_i32 c1_i32_0 : BitVec 32) (k0_t1 : Fin k0_t1_loop.trips) (v16 init : FVec F S32x128 .f32)
    (X2 : BufTy.Contents (Elt F) arg2.view.ty) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 c0_i32 c1_i32_0 k0_t1 v16 init where
  inv k acc := iprop((arg2.view.loc (c : Thread nD τ) ↦[arg2.view.set]{fullShare} X2) ∗ ⌜acc = sqFrom v16 init (arg2.view.read (Elt F) X2) k0_t1.val k⌝)
  step k acc := by
    iintro ⟨H2, %h⟩
    subst h
    unfold k0_t3_body
    have e : k0_pay12 v16 (sqFrom v16 init (arg2.view.read (Elt F) X2) k0_t1.val k.val)
        (View.readAt (Elt F) arg2.view (Rect.unit (s := S128x7168) (k0_off3 k0_t1 k) S32x128.size (k0_off3_inb k0_t1 k)).toLoadRect X2)
        = sqFrom v16 init (arg2.view.read (Elt F) X2) k0_t1.val (k.val + 1) := by
      rw [readAt_blk arg2 X2 _ k0_t1.val (k.val + 1) (by rw [k0_off3_eq]; rfl)]; rfl
    sl_exec
    sl_step
    sl_close

/-- A group's totals over all column blocks. -/
def tot (B : Vec F S128x7168 .bf16) (g : ℕ) : FVec F S32x128 .f32 := totFrom (k0_pay8 (blk B g 0)) B g 55
/-- A group's sums of squared deviations over all column blocks. -/
def sq (B : Vec F S128x7168 .bf16) (g : ℕ) : FVec F S32x128 .f32 := sqFrom (tot B g) (k0_pay11 (tot B g) (blk B g 0)) B g 55

/-- The statistics of a group: one run over the chunk. -/
theorem part2_run (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (arg1 : BitVec 32) (k0_t1 : Fin k0_t1_loop.trips)
    (X2 : BufTy.Contents (Elt F) arg2.view.ty) :
    (arg2.view.loc (c : Thread nD τ) ↦[arg2.view.set]{fullShare} X2) ⊢ wp (M := 𝕄) frame (wpE (defs₀ (F := F)) Variants.none (c : Thread nD τ) none) Set.univ
      (k0_part2 i arg2 harg2 arg3 harg3 arg4 harg4 arg5 harg5 arg6 harg6 arg7 harg7 arg8 harg8 arg9 harg9 arg10 harg10 arg11 harg11 arg12 harg12 arg13 harg13 arg1 0#32 1#32 k0_t1)
      (fun r => iprop(⌜r = ⟨Scf.iv 0#32 1#32 k0_t1, Scalar.muli (Scf.iv 0#32 1#32 k0_t1) 32#32,
          Scalar.addi (Scalar.muli arg1 128#32) (Scalar.muli (Scf.iv 0#32 1#32 k0_t1) 32#32),
          k0_pay10 (tot (arg2.view.read (Elt F) X2) k0_t1.val), k0_pay13 (sq (arg2.view.read (Elt F) X2) k0_t1.val),
          k0_pay14 (tot (arg2.view.read (Elt F) X2) k0_t1.val) (sq (arg2.view.read (Elt F) X2) k0_t1.val) (blk (arg2.view.read (Elt F) X2) k0_t1.val 0)⟩⌝
        ∗ (arg2.view.loc (c : Thread nD τ) ↦[arg2.view.set]{fullShare} X2))) := by
  rw [k0_part2_eq_skeleton]
  unfold k0_part2_skel
  iintro H2
  sl_exec
  sl_step
  isplitr
  · ipureintro
    have h2 : Scf.trips k0_t2_loop.lb k0_t2_loop.ub k0_t2_loop.st = 55 := trips_t2
    have hb := readAt_blk arg2 X2 (k0_off1_inb k0_t1) k0_t1.val 0 (by rw [k0_off1_eq])
    rw [h2]
    exact congrArg (fun b : Vec F S32x128 .bf16 =>
      (⟨Scf.iv 0#32 1#32 k0_t1, Scalar.muli (Scf.iv 0#32 1#32 k0_t1) 32#32,
        Scalar.addi (Scalar.muli arg1 128#32) (Scalar.muli (Scf.iv 0#32 1#32 k0_t1) 32#32),
        k0_pay10 (totFrom (k0_pay8 b) (arg2.view.read (Elt F) X2) k0_t1.val 55),
        k0_pay13 (sqFrom (totFrom (k0_pay8 b) (arg2.view.read (Elt F) X2) k0_t1.val 55)
          (k0_pay11 (totFrom (k0_pay8 b) (arg2.view.read (Elt F) X2) k0_t1.val 55) b) (arg2.view.read (Elt F) X2) k0_t1.val 55),
        k0_pay14 (totFrom (k0_pay8 b) (arg2.view.read (Elt F) X2) k0_t1.val 55)
          (sqFrom (totFrom (k0_pay8 b) (arg2.view.read (Elt F) X2) k0_t1.val 55)
            (k0_pay11 (totFrom (k0_pay8 b) (arg2.view.read (Elt F) X2) k0_t1.val 55) b) (arg2.view.read (Elt F) X2) k0_t1.val 55) b⟩ :
        Σ' (_ : BitVec 32) (_ : BitVec 32) (_ : BitVec 32) (_ : FVec F S32x1 .f32) (_ : FVec F S32x1 .f32), FVec F S32x128 .f32)) hb
  · iexact H2

set_option warn.classDefReducibility false in
/-- The third column loop carries the running maximum. -/
@[sl_loop] def inv_t4 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (k0_t1 : Fin k0_t1_loop.trips) (v7 : BitVec 32) (v20 : FVec F S32x1 .f32) (v36 : FVec F S32x1 .f32) (v44 : FVec F S32x128 .f32) (init : FVec F S32x128 .f32)
    (X2 : BufTy.Contents (Elt F) arg2.view.ty) (X3 : BufTy.Contents (Elt F) arg3.view.ty) (X4 : BufTy.Contents (Elt F) arg4.view.ty) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t1 v7 v20 v36 v44 init where
  inv k acc := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ ⌜acc = maxFrom v20 v36 init (arg2.view.read (Elt F) X2) (arg3.view.read (Elt F) X3) (arg4.view.read (Elt F) X4) k0_t1.val k⌝)
  step k acc := by
    iintro ⟨H2, H3, H4, %h⟩
    subst h
    unfold k0_t4_body
    have e : k0_pay16 v20 v36 (maxFrom v20 v36 init (arg2.view.read (Elt F) X2) (arg3.view.read (Elt F) X3) (arg4.view.read (Elt F) X4) k0_t1.val k.val)
        (View.readAt (Elt F) arg2.view (Rect.unit (s := S128x7168) (k0_off4 k0_t1 k) S32x128.size (k0_off4_inb k0_t1 k)).toLoadRect X2)
        (View.readAt (Elt F) ((arg3.slice (Rect.unit (s := S1x1x7168) ![0, 0, 0] S1x1x7168.size inb_S1x1x7168_S1x1x7168_0_0_0) (fun _ => rfl)).squeeze
          S1x7168 squeezes_S1x1x7168_S1x7168).view (Rect.unit (s := S1x7168) (k0_off5 k) S1x128.size (k0_off5_inb k)).toLoadRect X3)
        (View.readAt (Elt F) ((arg4.slice (Rect.unit (s := S1x1x7168) ![0, 0, 0] S1x1x7168.size inb_S1x1x7168_S1x1x7168_0_0_0) (fun _ => rfl)).squeeze
          S1x7168 squeezes_S1x1x7168_S1x7168).view (Rect.unit (s := S1x7168) (k0_off5 k) S1x128.size (k0_off5_inb k)).toLoadRect X4)
        = maxFrom v20 v36 init (arg2.view.read (Elt F) X2) (arg3.view.read (Elt F) X3) (arg4.view.read (Elt F) X4) k0_t1.val (k.val + 1) := by
      rw [readAt_blk arg2 X2 _ k0_t1.val (k.val + 1) (by rw [k0_off4_eq]; rfl), readAt_row arg3 X3 _ (k.val + 1) (by rw [k0_off5_eq]; rfl),
        readAt_row arg4 X4 _ (k.val + 1) (by rw [k0_off5_eq]; rfl)]; rfl
    sl_exec
    sl_step
    sl_close

/-- A group's maximum over all column blocks. -/
def mx (B : Vec F S128x7168 .bf16) (S H : Vec F S1x1x7168 .bf16) (g : ℕ) : FVec F S32x128 .f32 :=
  maxFrom (k0_pay10 (tot B g)) (k0_pay13 (sq B g)) (k0_pay15 (k0_pay14 (tot B g) (sq B g) (blk B g 0)) (rowBlk S 0) (rowBlk H 0)) B S H g 55

/-- The exponent tests of a group: one run over the chunk. -/
theorem part3_run (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (k0_t1 : Fin k0_t1_loop.trips) (v7 : BitVec 32)
    (X2 : BufTy.Contents (Elt F) arg2.view.ty) (X3 : BufTy.Contents (Elt F) arg3.view.ty) (X4 : BufTy.Contents (Elt F) arg4.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)) ⊢ wp (M := 𝕄) frame (wpE (defs₀ (F := F)) Variants.none (c : Thread nD τ) none) Set.univ
      (k0_part3 i arg2 harg2 arg3 harg3 arg4 harg4 arg5 harg5 arg6 harg6 arg7 harg7 arg8 harg8 arg9 harg9 arg10 harg10 arg11 harg11 arg12 harg12 arg13 harg13 k0_t1 v7 (k0_pay10 (tot (arg2.view.read (Elt F) X2) k0_t1.val)) (k0_pay13 (sq (arg2.view.read (Elt F) X2) k0_t1.val))
        (k0_pay14 (tot (arg2.view.read (Elt F) X2) k0_t1.val) (sq (arg2.view.read (Elt F) X2) k0_t1.val) (blk (arg2.view.read (Elt F) X2) k0_t1.val 0)))
      (fun r => iprop(⌜r = ⟨k0_pay17 (mx (arg2.view.read (Elt F) X2) (arg3.view.read (Elt F) X3) (arg4.view.read (Elt F) X4) k0_t1.val), k0_pay18, k0_pay19⟩⌝
        ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4))) := by
  rw [k0_part3_eq_skeleton]
  unfold k0_part3_skel
  iintro ⟨H2, H3, H4⟩
  sl_exec
  sl_step
  isplitr
  · ipureintro
    have h4 : Scf.trips k0_t4_loop.lb k0_t4_loop.ub k0_t4_loop.st = 55 := trips_t4
    rw [h4]
    have h3 := readAt_row arg3 X3 inb_S1x7168_S1x128_0_0 0 rfl
    have h4 := readAt_row arg4 X4 inb_S1x7168_S1x128_0_0 0 rfl
    exact congrArg₂ (fun s h : Vec F S1x128 .bf16 =>
      (⟨k0_pay17 (maxFrom (k0_pay10 (tot (arg2.view.read (Elt F) X2) k0_t1.val)) (k0_pay13 (sq (arg2.view.read (Elt F) X2) k0_t1.val))
          (k0_pay15 (k0_pay14 (tot (arg2.view.read (Elt F) X2) k0_t1.val) (sq (arg2.view.read (Elt F) X2) k0_t1.val)
            (blk (arg2.view.read (Elt F) X2) k0_t1.val 0)) s h)
          (arg2.view.read (Elt F) X2) (arg3.view.read (Elt F) X3) (arg4.view.read (Elt F) X4) k0_t1.val 55), k0_pay18, k0_pay19⟩ :
        Σ' (_ : IVec S32x256 1) (_ : IVec S32x256 32), IVec S32x256 32)) h3 h4
  · sl_close

end Cert.Kernel.Run
-- ==== Proof.Kernel.Codes.lean ====
module

public import proofs.«01_k».proof.Proof.Gen.Kernel.Frame
public import proofs.«01_k».proof.Proof.Gen.Kernel.Loops
public import proofs.«01_k».proof.Proof.Kernel.Columns
public import Idealize.ShloMosaic.Lib.WritesUnit

@[expose] public section

set_option maxRecDepth 8192
set_option maxHeartbeats 400000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The exponent tests of a group's rows. -/
def tests (B : Vec F S128x7168 .bf16) (S H : Vec F S1x1x7168 .bf16) (g : ℕ) : IVec S32x256 1 := k0_pay17 (mx B S H g)

/-- The codes of a group's column block. -/
def codeBlk (B : Vec F S128x7168 .bf16) (S H : Vec F S1x1x7168 .bf16) (g k : ℕ) : Vec F S32x128 .fp8e4m3 :=
  k0_pay6 (k0_pay10 (tot B g)) (k0_pay13 (sq B g)) (k0_pay21 (tests B S H g) k0_pay18 k0_pay19) (blk B g k) (rowBlk S k) (rowBlk H k)

/-- The codes of a chunk. -/
def codeAt (B : Vec F S128x7168 .bf16) (S H : Vec F S1x1x7168 .bf16) (r l : ℕ) : Elt F .fp8e4m3 :=
  codeBlk B S H (r / 32) (l / 128) (ix2 ⟨r % 32, Nat.mod_lt _ (by decide)⟩ ⟨l % 128, Nat.mod_lt _ (by decide)⟩)

/-- The scales of a group's rows, each across 128 lanes. -/
def scaleBlk (B : Vec F S128x7168 .bf16) (S H : Vec F S1x1x7168 .bf16) (g : ℕ) : Vec F S32x128 .f32 :=
  k0_pay22 (tests B S H g) k0_pay18 k0_pay19

/-- The scales of a chunk, each across 128 lanes. -/
def scaleAt (B : Vec F S128x7168 .bf16) (S H : Vec F S1x1x7168 .bf16) (r l : ℕ) : Elt F .f32 :=
  scaleBlk B S H (r / 32) (ix2 ⟨r % 32, Nat.mod_lt _ (by decide)⟩ ⟨l % 128, Nat.mod_lt _ (by decide)⟩)

/-- The scales of the first groups' rows, one lane per row. -/
def diagSum (B : Vec F S128x7168 .bf16) (S H : Vec F S1x1x7168 .bf16) : ℕ → Vec F S1x1x128 .f32
  | 0 => k0_pay2 (k0_pay24 (Scalar.muli (Scf.iv 0#32 1#32 0) 32#32) (tests B S H 0) k0_pay18 k0_pay19)
  | g + 1 => k0_pay3 (k0_pay24 (Scalar.muli (Scf.iv 0#32 1#32 (g + 1)) 32#32) (tests B S H (g + 1)) k0_pay18 k0_pay19) (diagSum B S H g)

/-- A chunk's code at a row of group `g` and a column of block `k` is the block's. -/
theorem codeAt_of (B : Vec F S128x7168 .bf16) (S H : Vec F S1x1x7168 .bf16) {r l g k : ℕ} (a : Fin 32) (b : Fin 128)
    (hr : r = 32 * g + a.val) (hl : l = 128 * k + b.val) : codeAt B S H r l = codeBlk B S H g k (ix2 a b) := by
  have ha := a.isLt
  have hb := b.isLt
  have h1 : r / 32 = g := by omega
  have h2 : l / 128 = k := by omega
  have h3 : (⟨r % 32, Nat.mod_lt _ (by decide)⟩ : Fin 32) = a := Fin.ext (by show r % 32 = a.val; omega)
  have h4 : (⟨l % 128, Nat.mod_lt _ (by decide)⟩ : Fin 128) = b := Fin.ext (by show l % 128 = b.val; omega)
  unfold codeAt
  rw [h1, h2, h3, h4]

/-- A chunk's scale at a row of group `g` is the group's. -/
theorem scaleAt_of (B : Vec F S128x7168 .bf16) (S H : Vec F S1x1x7168 .bf16) {r l g : ℕ} (a : Fin 32) (b : Fin 128)
    (hr : r = 32 * g + a.val) (hl : l = b.val) : scaleAt B S H r l = scaleBlk B S H g (ix2 a b) := by
  have ha := a.isLt
  have hb := b.isLt
  have h1 : r / 32 = g := by omega
  have h3 : (⟨r % 32, Nat.mod_lt _ (by decide)⟩ : Fin 32) = a := Fin.ext (by show r % 32 = a.val; omega)
  have h4 : (⟨l % 128, Nat.mod_lt _ (by decide)⟩ : Fin 128) = b := Fin.ext (by show l % 128 = b.val; omega)
  unfold scaleAt
  rw [h1, h3, h4]

/-- The slab's store holds the codes block with a leading axis of one. -/
theorem pay7_apply (v20 v36 v101 : FVec F S32x1 .f32) (b : Vec F S32x128 .bf16) (s h : Vec F S1x128 .bf16) (x0 : Fin 1) (x1 : Fin 32) (x2 : Fin 128) :
    k0_pay7 v20 v36 v101 b s h (ix3 x0 x1 x2) = k0_pay6 v20 v36 v101 b s h (ix2 x1 x2) := by
  unfold k0_pay7
  generalize k0_pay6 v20 v36 v101 b s h = p
  pointwise []

/-- The scale scratch's store holds the scales with a leading axis of one. -/
theorem pay23_apply (v80 : IVec S32x256 1) (v81 v82 : IVec S32x256 32) (x0 : Fin 1) (x1 : Fin 32) (x2 : Fin 128) :
    k0_pay23 (F := F) v80 v81 v82 (ix3 x0 x1 x2) = k0_pay22 (F := F) v80 v81 v82 (ix2 x1 x2) := by
  unfold k0_pay23
  generalize k0_pay22 (F := F) v80 v81 v82 = p
  pointwise []

/-- Storing a column block into the codes block extends the columns done. -/
theorem store10 (v : View sig .tc .vmem S128x7168 .fp8e4m3) (f f0 : v.ty.Contents (Elt F)) (C : ℕ → ℕ → Elt F .fp8e4m3) (g k : ℕ)
    {off : Fin 2 → ℕ} (inb : ∀ a, off a + S32x128.size a ≤ S128x7168.size a) (w : Vec F S32x128 .fp8e4m3) (hoff : off = ![32 * g, 128 * k])
    (hw : ∀ (a : Fin 32) (b : Fin 128), w (ix2 a b) = C (32 * g + a.val) (128 * k + b.val))
    (h : ∀ y : S128x7168.Idx, v.read (Elt F) f y = if 32 * g ≤ (y 0).val ∧ (y 0).val < 32 * g + 32 ∧ (y 1).val < 128 * k then
        C (y 0).val (y 1).val else v.read (Elt F) f0 y) (y : S128x7168.Idx) :
    v.read (Elt F) (v.writes (Elt F) f [⟨Rect.unit (s := S128x7168) off S32x128.size inb, w⟩]) y
      = if 32 * g ≤ (y 0).val ∧ (y 0).val < 32 * g + 32 ∧ (y 1).val < 128 * (k + 1) then
        C (y 0).val (y 1).val else v.read (Elt F) f0 y := by
  by_cases hm : 32 * g ≤ (y 0).val ∧ (y 0).val < 32 * g + 32 ∧ 128 * k ≤ (y 1).val ∧ (y 1).val < 128 * (k + 1)
  · rw [View.read_writes_cons_unit_of_mem v f inb w [] y
      (ix2 (⟨(y 0).val - 32 * g, by omega⟩ : Fin 32) (⟨(y 1).val - 128 * k, by omega⟩ : Fin 128)) hoff (fun a => by
        fin_cases a
        · show (y 0).val = 32 * g + ((y 0).val - 32 * g); omega
        · show (y 1).val = 128 * k + ((y 1).val - 128 * k); omega), hw, if_pos ⟨hm.1, hm.2.1, hm.2.2.2⟩]
    show C (32 * g + ((y 0).val - 32 * g)) (128 * k + ((y 1).val - 128 * k)) = _
    rw [Nat.add_sub_cancel' hm.1, Nat.add_sub_cancel' hm.2.2.1]
  · have hn : v.read (Elt F) (v.writes (Elt F) f [⟨Rect.unit (s := S128x7168) off S32x128.size inb, w⟩]) y = v.read (Elt F) f y := by
      by_cases h0 : 32 * g ≤ (y 0).val ∧ (y 0).val < 32 * g + 32
      · exact View.read_writes_cons_unit_of_not_mem v f inb w [] y hoff 1 (by
          show (y 1).val < 128 * k ∨ 128 * k + 128 ≤ (y 1).val; omega)
      · exact View.read_writes_cons_unit_of_not_mem v f inb w [] y hoff 0 (by
          show (y 0).val < 32 * g ∨ 32 * g + 32 ≤ (y 0).val; omega)
    rw [hn, h y]
    by_cases h2 : 32 * g ≤ (y 0).val ∧ (y 0).val < 32 * g + 32 ∧ (y 1).val < 128 * k
    · rw [if_pos h2, if_pos ⟨h2.1, h2.2.1, by omega⟩]
    · rw [if_neg h2, if_neg (by omega)]

/-- Storing a column block into the slot's slab extends the columns done. -/
theorem store12 (v : View sig .tc .vmem S2x1024x7168 .fp8e4m3) (f f0 : v.ty.Contents (Elt F)) (C : ℕ → ℕ → Elt F .fp8e4m3) (s r g k : ℕ)
    {off : Fin 3 → ℕ} (inb : ∀ a, off a + S1x32x128.size a ≤ S2x1024x7168.size a) (w : Vec F S1x32x128 .fp8e4m3) (hoff : off = ![s, r + 32 * g, 128 * k])
    (hw : ∀ (z : Fin 1) (a : Fin 32) (b : Fin 128), w (ix3 z a b) = C (32 * g + a.val) (128 * k + b.val))
    (h : ∀ y : S2x1024x7168.Idx, v.read (Elt F) f y = if (y 0).val = s ∧ r + 32 * g ≤ (y 1).val ∧ (y 1).val < r + 32 * g + 32 ∧ (y 2).val < 128 * k then
        C ((y 1).val - r) (y 2).val else v.read (Elt F) f0 y) (y : S2x1024x7168.Idx) :
    v.read (Elt F) (v.writes (Elt F) f [⟨Rect.unit (s := S2x1024x7168) off S1x32x128.size inb, w⟩]) y
      = if (y 0).val = s ∧ r + 32 * g ≤ (y 1).val ∧ (y 1).val < r + 32 * g + 32 ∧ (y 2).val < 128 * (k + 1) then
        C ((y 1).val - r) (y 2).val else v.read (Elt F) f0 y := by
  by_cases hm : (y 0).val = s ∧ r + 32 * g ≤ (y 1).val ∧ (y 1).val < r + 32 * g + 32 ∧ 128 * k ≤ (y 2).val ∧ (y 2).val < 128 * (k + 1)
  · rw [View.read_writes_cons_unit_of_mem v f inb w [] y
      (ix3 (0 : Fin 1) (⟨(y 1).val - (r + 32 * g), by omega⟩ : Fin 32) (⟨(y 2).val - 128 * k, by omega⟩ : Fin 128)) hoff (fun a => by
        fin_cases a
        · show (y 0).val = s + 0; omega
        · show (y 1).val = r + 32 * g + ((y 1).val - (r + 32 * g)); omega
        · show (y 2).val = 128 * k + ((y 2).val - 128 * k); omega), hw, if_pos ⟨hm.1, hm.2.1, hm.2.2.1, hm.2.2.2.2⟩]
    show C (32 * g + ((y 1).val - (r + 32 * g))) (128 * k + ((y 2).val - 128 * k)) = _
    rw [Nat.add_sub_cancel' hm.2.2.2.1, show 32 * g + ((y 1).val - (r + 32 * g)) = (y 1).val - r by omega]
  · have hn : v.read (Elt F) (v.writes (Elt F) f [⟨Rect.unit (s := S2x1024x7168) off S1x32x128.size inb, w⟩]) y = v.read (Elt F) f y := by
      by_cases h0 : (y 0).val = s
      · by_cases h1 : r + 32 * g ≤ (y 1).val ∧ (y 1).val < r + 32 * g + 32
        · exact View.read_writes_cons_unit_of_not_mem v f inb w [] y hoff 2 (by
            show (y 2).val < 128 * k ∨ 128 * k + 128 ≤ (y 2).val; omega)
        · exact View.read_writes_cons_unit_of_not_mem v f inb w [] y hoff 1 (by
            show (y 1).val < r + 32 * g ∨ r + 32 * g + 32 ≤ (y 1).val; omega)
      · exact View.read_writes_cons_unit_of_not_mem v f inb w [] y hoff 0 (by
          show (y 0).val < s ∨ s + 1 ≤ (y 0).val; omega)
    rw [hn, h y]
    by_cases h2 : (y 0).val = s ∧ r + 32 * g ≤ (y 1).val ∧ (y 1).val < r + 32 * g + 32 ∧ (y 2).val < 128 * k
    · rw [if_pos h2, if_pos ⟨h2.1, h2.2.1, h2.2.2.1, by omega⟩]
    · rw [if_neg h2, if_neg (by omega)]

/-- The column loop's invariant: the group's rows of the codes block and of the slot's slab hold the codes of the
    columns done, everything else is as it was. -/
abbrev I5 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (k0_t1 : Fin k0_t1_loop.trips)
    (X2 : BufTy.Contents (Elt F) arg2.view.ty) (X3 : BufTy.Contents (Elt F) arg3.view.ty) (X4 : BufTy.Contents (Elt F) arg4.view.ty) (f10 : BufTy.Contents (Elt F) arg10.view.ty) (f12 : BufTy.Contents (Elt F) arg12.view.ty) (k : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg10.view.loc (c : Thread nD τ) ↦[arg10.view.set]{fullShare} f) ∗ ⌜∀ y : S128x7168.Idx, arg10.view.read (Elt F) f y =
        if 32 * k0_t1.val ≤ (y 0).val ∧ (y 0).val < 32 * k0_t1.val + 32 ∧ (y 1).val < 128 * k then
          codeAt (arg2.view.read (Elt F) X2) (arg3.view.read (Elt F) X3) (arg4.view.read (Elt F) X4) (y 0).val (y 1).val
        else arg10.view.read (Elt F) f10 y⌝)
    ∗ (∃ f, (arg12.view.loc (c : Thread nD τ) ↦[arg12.view.set]{fullShare} f) ∗ ⌜∀ y : S2x1024x7168.Idx, arg12.view.read (Elt F) f y =
        if (y 0).val = (i 0).val % 2 ∧ 128 * (i 1).val + 32 * k0_t1.val ≤ (y 1).val ∧ (y 1).val < 128 * (i 1).val + 32 * k0_t1.val + 32 ∧ (y 2).val < 128 * k then
          codeAt (arg2.view.read (Elt F) X2) (arg3.view.read (Elt F) X3) (arg4.view.read (Elt F) X4) ((y 1).val - 128 * (i 1).val) (y 2).val
        else arg12.view.read (Elt F) f12 y⌝))

/-- One trip of the column loop. -/
theorem step5 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (v0 : BitVec 32) (k0_t1 : Fin k0_t1_loop.trips) (v7 : BitVec 32) (v10 : BitVec 32)
    (X2 : BufTy.Contents (Elt F) arg2.view.ty) (X3 : BufTy.Contents (Elt F) arg3.view.ty) (X4 : BufTy.Contents (Elt F) arg4.view.ty) (f10 : BufTy.Contents (Elt F) arg10.view.ty) (f12 : BufTy.Contents (Elt F) arg12.view.ty) (k : Fin k0_t5_loop.trips) (acc : Unit) :
    I5 c i arg2 harg2 arg3 harg3 arg4 harg4 arg5 harg5 arg6 harg6 arg7 harg7 arg8 harg8 arg9 harg9 arg10 harg10 arg11 harg11 arg12 harg12 arg13 harg13 k0_t1 X2 X3 X4 f10 f12 k.val ⊢ wp (M := 𝕄) frame (wpE (defs₀ (F := F)) Variants.none (c : Thread nD τ) none) Set.univ
      (k0_t5_body i arg2 harg2 arg3 harg3 arg4 harg4 arg5 harg5 arg6 harg6 arg7 harg7 arg8 harg8 arg9 harg9 arg10 harg10 arg11 harg11 arg12 harg12 arg13 harg13 v0 k0_t1 v7 v10
      (k0_pay10 (tot (arg2.view.read (Elt F) X2) k0_t1.val)) (k0_pay13 (sq (arg2.view.read (Elt F) X2) k0_t1.val))
      (tests (arg2.view.read (Elt F) X2) (arg3.view.read (Elt F) X3) (arg4.view.read (Elt F) X4) k0_t1.val) k0_pay18 k0_pay19 k acc)
      (fun _ => I5 c i arg2 harg2 arg3 harg3 arg4 harg4 arg5 harg5 arg6 harg6 arg7 harg7 arg8 harg8 arg9 harg9 arg10 harg10 arg11 harg11 arg12 harg12 arg13 harg13 k0_t1 X2 X3 X4 f10 f12 (k.val + 1)) := by
  iintro ⟨H2, H3, H4, ⟨%g10, H10, %h10⟩, ⟨%g12, H12, %h12⟩⟩
  unfold k0_t5_body
  sl_exec_parts
  sl_step
  isplitl [H2]; · iexact H2
  isplitl [H3]; · iexact H3
  isplitl [H4]; · iexact H4
  have hb := readAt_blk arg2 X2 (k0_off6_inb k0_t1 k) k0_t1.val k.val (by rw [k0_off6_eq])
  have hs := readAt_row arg3 X3 (k0_off7_inb k) k.val (by rw [k0_off7_eq])
  have hh := readAt_row arg4 X4 (k0_off7_inb k) k.val (by rw [k0_off7_eq])
  isplitl [H10]
  · iexists _
    isplitl [H10]; · iexact H10
    ipureintro
    exact store10 _ g10 f10 _ k0_t1.val k.val _ _ (k0_off6_eq k0_t1 k) (fun a b => by
      rw [codeAt_of _ _ _ a b rfl rfl]
      unfold codeBlk
      rw [← hb, ← hs, ← hh]
      rfl) h10
  · iexists _
    isplitl [H12]; · iexact H12
    ipureintro
    exact store12 _ g12 f12 _ ((i 0).val % 2) (128 * (i 1).val) k0_t1.val k.val _ _ (k0_off10_eq i k0_t1 k) (fun z a b => by
      rw [codeAt_of _ _ _ a b rfl rfl]
      unfold codeBlk
      rw [← hb, ← hs, ← hh, ← pay7_apply _ _ _ _ _ _ z]
      rfl) h12

end Cert.Kernel.Run
-- ==== Proof.Kernel.Stores.lean ====
module

public import proofs.«01_k».proof.Proof.Gen.Kernel.Frame
public import proofs.«01_k».proof.Proof.Gen.Kernel.Loops
public import proofs.«01_k».proof.Proof.Kernel.Codes
public import Idealize.ShloMosaic.Lib.WritesUnit

@[expose] public section

set_option maxRecDepth 8192
set_option maxHeartbeats 400000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Storing a group's scales into the slot's slab extends the rows done. -/
theorem store13 (v : View sig .tc .vmem S2x1024x128 .f32) (f f0 : v.ty.Contents (Elt F)) (C : ℕ → ℕ → Elt F .f32) (s r g : ℕ)
    {off : Fin 3 → ℕ} (inb : ∀ a, off a + S1x32x128.size a ≤ S2x1024x128.size a) (w : Vec F S1x32x128 .f32) (hoff : off = ![s, r + 32 * g, 0])
    (hw : ∀ (z : Fin 1) (a : Fin 32) (b : Fin 128), w (ix3 z a b) = C (32 * g + a.val) b.val)
    (h : ∀ y : S2x1024x128.Idx, v.read (Elt F) f y = if (y 0).val = s ∧ r ≤ (y 1).val ∧ (y 1).val < r + 32 * g then
        C ((y 1).val - r) (y 2).val else v.read (Elt F) f0 y) (y : S2x1024x128.Idx) :
    v.read (Elt F) (v.writes (Elt F) f [⟨Rect.unit (s := S2x1024x128) off S1x32x128.size inb, w⟩]) y
      = if (y 0).val = s ∧ r ≤ (y 1).val ∧ (y 1).val < r + 32 * (g + 1) then
        C ((y 1).val - r) (y 2).val else v.read (Elt F) f0 y := by
  have hy2 : (y 2).val < 128 := (y 2).isLt
  by_cases hm : (y 0).val = s ∧ r + 32 * g ≤ (y 1).val ∧ (y 1).val < r + 32 * g + 32
  · rw [View.read_writes_cons_unit_of_mem v f inb w [] y
      (ix3 (0 : Fin 1) (⟨(y 1).val - (r + 32 * g), by omega⟩ : Fin 32) (⟨(y 2).val, hy2⟩ : Fin 128)) hoff (fun a => by
        fin_cases a
        · show (y 0).val = s + 0; omega
        · show (y 1).val = r + 32 * g + ((y 1).val - (r + 32 * g)); omega
        · show (y 2).val = 0 + (y 2).val; omega), hw, if_pos ⟨hm.1, by omega, by omega⟩]
    show C (32 * g + ((y 1).val - (r + 32 * g))) (y 2).val = _
    rw [show 32 * g + ((y 1).val - (r + 32 * g)) = (y 1).val - r by omega]
  · have hn : v.read (Elt F) (v.writes (Elt F) f [⟨Rect.unit (s := S2x1024x128) off S1x32x128.size inb, w⟩]) y = v.read (Elt F) f y := by
      by_cases h0 : (y 0).val = s
      · exact View.read_writes_cons_unit_of_not_mem v f inb w [] y hoff 1 (by
            show (y 1).val < r + 32 * g ∨ r + 32 * g + 32 ≤ (y 1).val; omega)
      · exact View.read_writes_cons_unit_of_not_mem v f inb w [] y hoff 0 (by
          show (y 0).val < s ∨ s + 1 ≤ (y 0).val; omega)
    rw [hn, h y]
    by_cases h2 : (y 0).val = s ∧ r ≤ (y 1).val ∧ (y 1).val < r + 32 * g
    · rw [if_pos h2, if_pos ⟨h2.1, h2.2.1, by omega⟩]
    · rw [if_neg h2, if_neg (by omega)]

/-- The codes of a group, stored: one run from the rows done before. -/
theorem part4_run (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (v0 : BitVec 32) (k0_t1 : Fin k0_t1_loop.trips) (v7 v10 : BitVec 32)
    (X2 : BufTy.Contents (Elt F) arg2.view.ty) (X3 : BufTy.Contents (Elt F) arg3.view.ty) (X4 : BufTy.Contents (Elt F) arg4.view.ty) (f12 : BufTy.Contents (Elt F) arg12.view.ty) (f13 : BufTy.Contents (Elt F) arg13.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (∃ f, (arg10.view.loc (c : Thread nD τ) ↦[arg10.view.set]{fullShare} f) ∗ ⌜∀ y : S128x7168.Idx, (y 0).val < 32 * k0_t1.val →
          arg10.view.read (Elt F) f y = codeAt (arg2.view.read (Elt F) X2) (arg3.view.read (Elt F) X3) (arg4.view.read (Elt F) X4) (y 0).val (y 1).val⌝)
      ∗ (∃ f, (arg12.view.loc (c : Thread nD τ) ↦[arg12.view.set]{fullShare} f) ∗ ⌜∀ y : S2x1024x7168.Idx, arg12.view.read (Elt F) f y =
          if (y 0).val = (i 0).val % 2 ∧ 128 * (i 1).val ≤ (y 1).val ∧ (y 1).val < 128 * (i 1).val + 32 * k0_t1.val then
            codeAt (arg2.view.read (Elt F) X2) (arg3.view.read (Elt F) X3) (arg4.view.read (Elt F) X4) ((y 1).val - 128 * (i 1).val) (y 2).val else arg12.view.read (Elt F) f12 y⌝)
      ∗ (∃ f, (arg13.view.loc (c : Thread nD τ) ↦[arg13.view.set]{fullShare} f) ∗ ⌜∀ y : S2x1024x128.Idx, arg13.view.read (Elt F) f y =
          if (y 0).val = (i 0).val % 2 ∧ 128 * (i 1).val ≤ (y 1).val ∧ (y 1).val < 128 * (i 1).val + 32 * k0_t1.val then
            scaleAt (arg2.view.read (Elt F) X2) (arg3.view.read (Elt F) X3) (arg4.view.read (Elt F) X4) ((y 1).val - 128 * (i 1).val) (y 2).val else arg13.view.read (Elt F) f13 y⌝))
    ⊢ wp (M := 𝕄) frame (wpE (defs₀ (F := F)) Variants.none (c : Thread nD τ) none) Set.univ
      (k0_part4 i arg2 harg2 arg3 harg3 arg4 harg4 arg5 harg5 arg6 harg6 arg7 harg7 arg8 harg8 arg9 harg9 arg10 harg10 arg11 harg11 arg12 harg12 arg13 harg13 v0 k0_t1 v7 v10 (k0_pay10 (tot (arg2.view.read (Elt F) X2) k0_t1.val)) (k0_pay13 (sq (arg2.view.read (Elt F) X2) k0_t1.val))
        (tests (arg2.view.read (Elt F) X2) (arg3.view.read (Elt F) X3) (arg4.view.read (Elt F) X4) k0_t1.val) k0_pay18 k0_pay19)
      (fun r => iprop(⌜r = k0_pay24 v7 (tests (arg2.view.read (Elt F) X2) (arg3.view.read (Elt F) X3) (arg4.view.read (Elt F) X4) k0_t1.val) k0_pay18 k0_pay19⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (∃ f, (arg10.view.loc (c : Thread nD τ) ↦[arg10.view.set]{fullShare} f) ∗ ⌜∀ y : S128x7168.Idx, (y 0).val < 32 * (k0_t1.val + 1) →
          arg10.view.read (Elt F) f y = codeAt (arg2.view.read (Elt F) X2) (arg3.view.read (Elt F) X3) (arg4.view.read (Elt F) X4) (y 0).val (y 1).val⌝)
      ∗ (∃ f, (arg12.view.loc (c : Thread nD τ) ↦[arg12.view.set]{fullShare} f) ∗ ⌜∀ y : S2x1024x7168.Idx, arg12.view.read (Elt F) f y =
          if (y 0).val = (i 0).val % 2 ∧ 128 * (i 1).val ≤ (y 1).val ∧ (y 1).val < 128 * (i 1).val + 32 * (k0_t1.val + 1) then
            codeAt (arg2.view.read (Elt F) X2) (arg3.view.read (Elt F) X3) (arg4.view.read (Elt F) X4) ((y 1).val - 128 * (i 1).val) (y 2).val else arg12.view.read (Elt F) f12 y⌝)
      ∗ (∃ f, (arg13.view.loc (c : Thread nD τ) ↦[arg13.view.set]{fullShare} f) ∗ ⌜∀ y : S2x1024x128.Idx, arg13.view.read (Elt F) f y =
          if (y 0).val = (i 0).val % 2 ∧ 128 * (i 1).val ≤ (y 1).val ∧ (y 1).val < 128 * (i 1).val + 32 * (k0_t1.val + 1) then
            scaleAt (arg2.view.read (Elt F) X2) (arg3.view.read (Elt F) X3) (arg4.view.read (Elt F) X4) ((y 1).val - 128 * (i 1).val) (y 2).val else arg13.view.read (Elt F) f13 y⌝))) := by
  rw [k0_part4_eq_skeleton]
  unfold k0_part4_skel
  iintro ⟨H2, H3, H4, ⟨%g10, H10, %h10⟩, ⟨%g12, H12, %h12⟩, ⟨%g13, H13, %h13⟩⟩
  have e10 : ∀ y : S128x7168.Idx, arg10.view.read (Elt F) g10 y =
        if 32 * k0_t1.val ≤ (y 0).val ∧ (y 0).val < 32 * k0_t1.val + 32 ∧ (y 1).val < 128 * 0 then
          codeAt (arg2.view.read (Elt F) X2) (arg3.view.read (Elt F) X3) (arg4.view.read (Elt F) X4) (y 0).val (y 1).val
        else arg10.view.read (Elt F) g10 y := fun y => by rw [if_neg (by omega)]
  have e12 : ∀ y : S2x1024x7168.Idx, arg12.view.read (Elt F) g12 y =
        if (y 0).val = (i 0).val % 2 ∧ 128 * (i 1).val + 32 * k0_t1.val ≤ (y 1).val ∧ (y 1).val < 128 * (i 1).val + 32 * k0_t1.val + 32 ∧ (y 2).val < 128 * 0 then
          codeAt (arg2.view.read (Elt F) X2) (arg3.view.read (Elt F) X3) (arg4.view.read (Elt F) X4) ((y 1).val - 128 * (i 1).val) (y 2).val
        else arg12.view.read (Elt F) g12 y := fun y => by rw [if_neg (by omega)]
  iapply (Scf.wp_for_bind frame (wpE (defs₀ (F := F)) Variants.none (c : Thread nD τ) none) Set.univ _ _ _ k0_t5_ok _ _
    (fun k (_ : Unit) => I5 c i arg2 harg2 arg3 harg3 arg4 harg4 arg5 harg5 arg6 harg6 arg7 harg7 arg8 harg8 arg9 harg9 arg10 harg10 arg11 harg11 arg12 harg12 arg13 harg13 k0_t1 X2 X3 X4 g10 g12 k)
    (fun k acc => step5 c i arg2 harg2 arg3 harg3 arg4 harg4 arg5 harg5 arg6 harg6 arg7 harg7 arg8 harg8 arg9 harg9 arg10 harg10 arg11 harg11 arg12 harg12 arg13 harg13 v0 k0_t1 v7 v10 X2 X3 X4 g10 g12 k acc)) $$ [H2 H3 H4 H10 H12]
  · isplitl [H2]; · iexact H2
    isplitl [H3]; · iexact H3
    isplitl [H4]; · iexact H4
    isplitl [H10]
    · iexists g10
      isplitl [H10]; · iexact H10
      ipureintro; exact e10
    · iexists g12
      isplitl [H12]; · iexact H12
      ipureintro; exact e12
  iintro %acc ⟨H2, H3, H4, ⟨%k10, H10, %h10'⟩, ⟨%k12, H12, %h12'⟩⟩
  sl_exec
  sl_step
  isplitr; · ipureintro; rfl
  isplitl [H2]; · iexact H2
  isplitl [H3]; · iexact H3
  isplitl [H4]; · iexact H4
  have h5 : Scf.trips k0_t5_loop.lb k0_t5_loop.ub k0_t5_loop.st = 56 := trips_t5
  rw [h5] at h10' h12'
  isplitl [H10]
  · iexists _
    isplitl [H10]; · iexact H10
    ipureintro
    intro y hy
    have hy1 : (y 1).val < 7168 := (y 1).isLt
    rw [h10' y]
    by_cases hc : 32 * k0_t1.val ≤ (y 0).val
    · rw [if_pos ⟨hc, by omega, by omega⟩]
    · rw [if_neg (by omega), h10 y (by omega)]
  isplitl [H12]
  · iexists _
    isplitl [H12]; · iexact H12
    ipureintro
    intro y
    have hy2 : (y 2).val < 7168 := (y 2).isLt
    rw [h12' y]
    by_cases hc : (y 0).val = (i 0).val % 2 ∧ 128 * (i 1).val + 32 * k0_t1.val ≤ (y 1).val ∧ (y 1).val < 128 * (i 1).val + 32 * k0_t1.val + 32
    · rw [if_pos ⟨hc.1, hc.2.1, hc.2.2, by omega⟩, if_pos ⟨hc.1, by omega, by omega⟩]
    · rw [if_neg (by omega), h12 y]
      by_cases hd : (y 0).val = (i 0).val % 2 ∧ 128 * (i 1).val ≤ (y 1).val ∧ (y 1).val < 128 * (i 1).val + 32 * k0_t1.val
      · rw [if_pos hd, if_pos ⟨hd.1, hd.2.1, by omega⟩]
      · rw [if_neg hd, if_neg (by omega)]
  · iexists _
    isplitl [H13]; · iexact H13
    ipureintro
    exact store13 _ g13 f13 _ ((i 0).val % 2) (128 * (i 1).val) k0_t1.val _ _ (k0_off11_eq i k0_t1) (fun z a b => by
      rw [scaleAt_of _ _ _ a b rfl rfl, pay23_apply]
      rfl) h13

end Cert.Kernel.Run
-- ==== Proof.Kernel.Group.lean ====
module

public import proofs.«01_k».proof.Proof.Gen.Kernel.Frame
public import proofs.«01_k».proof.Proof.Gen.Kernel.Loops
public import proofs.«01_k».proof.Proof.Kernel.Stores
public import Idealize.ShloMosaic.Lib.WritesUnit
public import Idealize.ShloMosaic.Lib.VecWindow

@[expose] public section

set_option maxRecDepth 8192
set_option maxHeartbeats 400000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The row-group loop's invariant: the rows of the groups done hold their codes and scales, everything else is as it
    was, and the scale row is the sum over the groups done. -/
abbrev I1 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole)
    (X2 : BufTy.Contents (Elt F) arg2.view.ty) (X3 : BufTy.Contents (Elt F) arg3.view.ty) (X4 : BufTy.Contents (Elt F) arg4.view.ty) (f12 : BufTy.Contents (Elt F) arg12.view.ty) (f13 : BufTy.Contents (Elt F) arg13.view.ty) (g : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (∃ f, (arg10.view.loc (c : Thread nD τ) ↦[arg10.view.set]{fullShare} f) ∗ ⌜∀ y : S128x7168.Idx, (y 0).val < 32 * g →
          arg10.view.read (Elt F) f y = codeAt (arg2.view.read (Elt F) X2) (arg3.view.read (Elt F) X3) (arg4.view.read (Elt F) X4) (y 0).val (y 1).val⌝)
      ∗ (∃ f, (arg11.view.loc (c : Thread nD τ) ↦[arg11.view.set]{fullShare} f) ∗ ⌜∀ n, g = n + 1 → arg11.view.read (Elt F) f = diagSum (arg2.view.read (Elt F) X2) (arg3.view.read (Elt F) X3) (arg4.view.read (Elt F) X4) n⌝)
      ∗ (∃ f, (arg12.view.loc (c : Thread nD τ) ↦[arg12.view.set]{fullShare} f) ∗ ⌜∀ y : S2x1024x7168.Idx, arg12.view.read (Elt F) f y =
          if (y 0).val = (i 0).val % 2 ∧ 128 * (i 1).val ≤ (y 1).val ∧ (y 1).val < 128 * (i 1).val + 32 * g then
            codeAt (arg2.view.read (Elt F) X2) (arg3.view.read (Elt F) X3) (arg4.view.read (Elt F) X4) ((y 1).val - 128 * (i 1).val) (y 2).val else arg12.view.read (Elt F) f12 y⌝)
      ∗ (∃ f, (arg13.view.loc (c : Thread nD τ) ↦[arg13.view.set]{fullShare} f) ∗ ⌜∀ y : S2x1024x128.Idx, arg13.view.read (Elt F) f y =
          if (y 0).val = (i 0).val % 2 ∧ 128 * (i 1).val ≤ (y 1).val ∧ (y 1).val < 128 * (i 1).val + 32 * g then
            scaleAt (arg2.view.read (Elt F) X2) (arg3.view.read (Elt F) X3) (arg4.view.read (Elt F) X4) ((y 1).val - 128 * (i 1).val) (y 2).val else arg13.view.read (Elt F) f13 y⌝))

theorem cond1_iff : ∀ k : Fin k0_t1_loop.trips, k0_cond1 k = 1#1 ↔ k.val = 0 := by decide +kernel
theorem cond2_iff : ∀ k : Fin k0_t1_loop.trips, k0_cond2 k = 1#1 ↔ k.val ≠ 0 := by decide +kernel

/-- One trip of the row-group loop. -/
theorem step1 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (arg1 v0 : BitVec 32)
    (X2 : BufTy.Contents (Elt F) arg2.view.ty) (X3 : BufTy.Contents (Elt F) arg3.view.ty) (X4 : BufTy.Contents (Elt F) arg4.view.ty) (f12 : BufTy.Contents (Elt F) arg12.view.ty) (f13 : BufTy.Contents (Elt F) arg13.view.ty) (k : Fin k0_t1_loop.trips) (acc : Unit) :
    I1 c i arg2 harg2 arg3 harg3 arg4 harg4 arg5 harg5 arg6 harg6 arg7 harg7 arg8 harg8 arg9 harg9 arg10 harg10 arg11 harg11 arg12 harg12 arg13 harg13 X2 X3 X4 f12 f13 k.val ⊢ wp (M := 𝕄) frame (wpE (defs₀ (F := F)) Variants.none (c : Thread nD τ) none) Set.univ
      (k0_t1_body i arg2 harg2 arg3 harg3 arg4 harg4 arg5 harg5 arg6 harg6 arg7 harg7 arg8 harg8 arg9 harg9 arg10 harg10 arg11 harg11 arg12 harg12 arg13 harg13 arg1 v0 k acc)
      (fun _ => I1 c i arg2 harg2 arg3 harg3 arg4 harg4 arg5 harg5 arg6 harg6 arg7 harg7 arg8 harg8 arg9 harg9 arg10 harg10 arg11 harg11 arg12 harg12 arg13 harg13 X2 X3 X4 f12 f13 (k.val + 1)) := by
  iintro ⟨H2, H3, H4, H10, ⟨%g11, H11, %h11⟩, H12, H13⟩
  unfold k0_t1_body
  rw [wp_bind]
  iapply (wp_wand_r frame (wpE (defs₀ (F := F)) Variants.none (c : Thread nD τ) none) Set.univ)
  isplitl [H2]
  · iapply (part2_run c i arg2 harg2 arg3 harg3 arg4 harg4 arg5 harg5 arg6 harg6 arg7 harg7 arg8 harg8 arg9 harg9 arg10 harg10 arg11 harg11 arg12 harg12 arg13 harg13 arg1 k X2)
    iexact H2
  iintro %r ⟨%hr, H2⟩
  subst hr
  dsimp only
  rw [wp_bind]
  iapply (wp_wand_r frame (wpE (defs₀ (F := F)) Variants.none (c : Thread nD τ) none) Set.univ)
  isplitl [H2 H3 H4]
  · iapply (part3_run c i arg2 harg2 arg3 harg3 arg4 harg4 arg5 harg5 arg6 harg6 arg7 harg7 arg8 harg8 arg9 harg9 arg10 harg10 arg11 harg11 arg12 harg12 arg13 harg13 k _ X2 X3 X4)
    isplitl [H2]; · iexact H2
    isplitl [H3]; · iexact H3
    iexact H4
  iintro %r ⟨%hr, H2, H3, H4⟩
  subst hr
  dsimp only
  rw [wp_bind]
  iapply (wp_wand_r frame (wpE (defs₀ (F := F)) Variants.none (c : Thread nD τ) none) Set.univ)
  isplitl [H2 H3 H4 H10 H12 H13]
  · iapply (part4_run c i arg2 harg2 arg3 harg3 arg4 harg4 arg5 harg5 arg6 harg6 arg7 harg7 arg8 harg8 arg9 harg9 arg10 harg10 arg11 harg11 arg12 harg12 arg13 harg13 v0 k _ _ X2 X3 X4 f12 f13)
    isplitl [H2]; · iexact H2
    isplitl [H3]; · iexact H3
    isplitl [H4]; · iexact H4
    isplitl [H10]; · iexact H10
    isplitl [H12]; · iexact H12
    iexact H13
  iintro %r ⟨%hr, H2, H3, H4, H10, H12, H13⟩
  subst hr
  by_cases hk : k.val = 0
  · rw [dif_pos ((cond1_iff k).mpr hk), dif_neg (fun h => (cond2_iff k).mp h hk)]
    sl_exec
    sl_step
    isplitl [H2]; · iexact H2
    isplitl [H3]; · iexact H3
    isplitl [H4]; · iexact H4
    isplitl [H10]; · iexact H10
    isplitl [H11]
    · iexists _
      isplitl [H11]; · iexact H11
      ipureintro
      intro n hn
      obtain rfl : n = 0 := by omega
      have e := View.read_writes_full arg11.view g11 inb_S1x1x128_S1x1x128_0_0_0
        (k0_pay2 (k0_pay24 (Scalar.muli (Scf.iv 0#32 1#32 k.val) 32#32) (tests (arg2.view.read (Elt F) X2) (arg3.view.read (Elt F) X3) (arg4.view.read (Elt F) X4) k.val) k0_pay18 k0_pay19)) []
      refine Eq.trans e ?_
      rw [hk]
      rfl
    isplitl [H12]; · iexact H12
    iexact H13
  · rw [dif_neg (fun h => hk ((cond1_iff k).mp h)), dif_pos ((cond2_iff k).mpr hk)]
    sl_exec
    sl_step
    isplitl [H2]; · iexact H2
    isplitl [H3]; · iexact H3
    isplitl [H4]; · iexact H4
    isplitl [H10]; · iexact H10
    isplitl [H11]
    · iexists _
      isplitl [H11]; · iexact H11
      ipureintro
      intro n hn
      obtain ⟨m, rfl⟩ : ∃ m, n = m + 1 := ⟨n - 1, by omega⟩
      have hm := h11 m (by omega)
      have e0 := View.readAt_full arg11.view g11 inb_S1x1x128_S1x1x128_0_0_0
      have e := View.read_writes_full arg11.view g11 inb_S1x1x128_S1x1x128_0_0_0
        (k0_pay3 (k0_pay24 (Scalar.muli (Scf.iv 0#32 1#32 k.val) 32#32) (tests (arg2.view.read (Elt F) X2) (arg3.view.read (Elt F) X3) (arg4.view.read (Elt F) X4) k.val) k0_pay18 k0_pay19)
          (View.readAt (Elt F) arg11.view (Rect.unit (s := S1x1x128) ![0, 0, 0] S1x1x128.size inb_S1x1x128_S1x1x128_0_0_0).toLoadRect g11)) []
      refine Eq.trans e ?_
      rw [e0, hm, show k.val = m + 1 by omega]
      rfl
    isplitl [H12]; · iexact H12
    iexact H13

end Cert.Kernel.Run
-- ==== Proof.Kernel.Bands.lean ====
module

public import proofs.«01_k».proof.Proof.Gen.Kernel.Frame
public import proofs.«01_k».proof.Proof.Gen.Kernel.Loops
public import proofs.«01_k».proof.Proof.Kernel.Group
public import Idealize.ShloMosaic.Lib.WritesUnit
public import Idealize.ShloMosaic.Lib.VecWindow

@[expose] public section

set_option maxRecDepth 8192
set_option maxHeartbeats 400000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One slot of the codes' scratch. -/
def slab (s : ℕ) (C : Vec F S2x1024x7168 .fp8e4m3) : Vec F S1x1024x7168 .fp8e4m3 := fun y =>
  C (ix3 ⟨s % 2, Nat.mod_lt _ (by decide)⟩ (y 1) (y 2))

/-- One slot of the scales' scratch. -/
def slabS (s : ℕ) (C : Vec F S2x1024x128 .f32) : Vec F S1x1024x128 .f32 := fun y =>
  C (ix3 ⟨s % 2, Nat.mod_lt _ (by decide)⟩ (y 1) (y 2))

/-- One element of a product's block after its scales, its bias and its gate. -/
def yCell (p s w : Elt F .f32) (b g : Elt F .bf16) : Elt F .bf16 :=
  FloatOps.truncf FTy.bf16 bitsLt_bf16_f32 (FloatOps.mulf (FloatOps.addf (FloatOps.mulf (FloatOps.mulf p s) w)
    (FloatOps.extf FTy.f32 bitsLt_bf16_f32 b)) (FloatOps.extf FTy.f32 bitsLt_bf16_f32 g))

/-- The lane of a column. -/
def lane (n : ℕ) : Fin 128 := ⟨n % 128, Nat.mod_lt _ (by decide)⟩

/-- A block of the product after its scales, bias and gate. -/
def yElt (v10 : FVec F S1024x1280 .f32) (v13 : FVec F S1024x128 .f32) (ws : Vec F S1x1280 .f32) (bias : Vec F S1x1280 .bf16)
    (gate : Vec F S1x1x1280 .bf16) : Vec F S1024x1280 .bf16 := fun y =>
  yCell (v10 (ix2 (y 0) (y 1))) (v13 (ix2 (y 0) (lane (y 1).val))) (ws (ix2 0 (y 1))) (bias (ix2 0 (y 1))) (gate (ix3 0 0 (y 1)))

/-- The block of the product of one slot's codes, after its scales, bias and gate. -/
def yBlk (v7 : Vec F S1x1024x7168 .fp8e4m3) (v12 : Vec F S1x1024x128 .f32) (v9 : Vec F S7168x1280 .fp8e4m3) (ws : Vec F S1x1280 .f32)
    (bias : Vec F S1x1280 .bf16) (gate : Vec F S1x1x1280 .bf16) : Vec F S1024x1280 .bf16 :=
  yElt (k0_pay25 v7 v9) (k0_pay26 v12) ws bias gate

/-- A column of band `b`. -/
def bcol (b : ℕ) (hb : b < 10) (l : Fin 128) : Fin 1280 := ⟨128 * b + l.val, by omega⟩

/-- A load of a row of 1280 at a band's columns. -/
theorem readAt_band2 {e : EltTy} (m : Memref sig .tc .vmem S1x1280 e) (X : BufTy.Contents (Elt F) m.view.ty) {off : Fin 2 → ℕ}
    (inb : ∀ a, off a + S1x128.size a ≤ S1x1280.size a) (b : ℕ) (hb : b < 10) (h : off = ![0, 128 * b]) (l : Fin 128) :
    View.readAt (Elt F) m.view (Rect.unit (s := S1x1280) off S1x128.size inb).toLoadRect X (ix2 0 l) = m.view.read (Elt F) X (ix2 0 (bcol b hb l)) := by
  subst h
  refine congrArg (m.view.read (Elt F) X) (funext fun a => Fin.ext ?_)
  fin_cases a
  · rfl
  · show 128 * b + 1 * l.val = 128 * b + l.val
    omega

/-- The same for a row with one more unit axis. -/
theorem readAt_band3 {e : EltTy} (m : Memref sig .tc .vmem S1x1x1280 e) (X : BufTy.Contents (Elt F) m.view.ty) {off : Fin 3 → ℕ}
    (inb : ∀ a, off a + S1x1x128.size a ≤ S1x1x1280.size a) (b : ℕ) (hb : b < 10) (h : off = ![0, 0, 128 * b]) (l : Fin 128) :
    View.readAt (Elt F) m.view (Rect.unit (s := S1x1x1280) off S1x1x128.size inb).toLoadRect X (ix3 0 0 l) = m.view.read (Elt F) X (ix3 0 0 (bcol b hb l)) := by
  subst h
  refine congrArg (m.view.read (Elt F) X) (funext fun a => Fin.ext ?_)
  fin_cases a
  · rfl
  · rfl
  · show 128 * b + 1 * l.val = 128 * b + l.val
    omega

/-- A band stored over a list of stores that already left `G` in the bands before it. -/
theorem band_read (m : Memref sig .tc .vmem S1024x1280 .bf16) (f : BufTy.Contents (Elt F) m.view.ty) (G : Vec F S1024x1280 .bf16) (b : ℕ) (hb : b < 10)
    {off : Fin 2 → ℕ} (inb : ∀ a, off a + S1024x128.size a ≤ S1024x1280.size a) (w : Vec F S1024x128 .bf16) (L : List (View.Piece (Elt F) S1024x1280 .bf16))
    (h : off = ![0, 128 * b]) (hw : ∀ (r : Fin 1024) (l : Fin 128), w (ix2 r l) = G (ix2 r (bcol b hb l)))
    (hL : ∀ y : S1024x1280.Idx, (y 1).val < 128 * b → m.view.read (Elt F) (m.view.writes (Elt F) f L) y = G y)
    (y : S1024x1280.Idx) (hy : (y 1).val < 128 * b + 128) :
    m.view.read (Elt F) (m.view.writes (Elt F) f (⟨Rect.unit (s := S1024x1280) off S1024x128.size inb, w⟩ :: L)) y = G y := by
  have h0 : (y 0).val < 1024 := (y 0).isLt
  by_cases hlt : (y 1).val < 128 * b
  · rw [View.read_writes_cons_unit_of_not_mem m.view f inb w L y h 1 (Or.inl hlt)]
    exact hL y hlt
  · have hl : (y 1).val - 128 * b < 128 := by omega
    rw [View.read_writes_cons_unit_of_mem m.view f inb w L y (ix2 ⟨(y 0).val, h0⟩ ⟨(y 1).val - 128 * b, hl⟩) h (by
      intro a
      fin_cases a
      · show (y 0).val = 0 + (y 0).val
        omega
      · show (y 1).val = 128 * b + ((y 1).val - 128 * b)
        omega)]
    rw [hw]
    refine congrArg G (funext fun a => Fin.ext ?_)
    fin_cases a
    · rfl
    · show 128 * b + ((y 1).val - 128 * b) = (y 1).val
      omega

/-- A band's payload, from the values its loads read. -/
theorem band_eq (w : Vec F S1024x128 .bf16) (v10 : FVec F S1024x1280 .f32) (v13 : FVec F S1024x128 .f32) (ws : Vec F S1x1280 .f32)
    (bias : Vec F S1x1280 .bf16) (gate : Vec F S1x1x1280 .bf16) (b : ℕ) (hb : b < 10) (v16 : Vec F S1x128 .f32) (v20 : Vec F S1x128 .bf16)
    (v25 : Vec F S1x1x128 .bf16) (r : Fin 1024) (l : Fin 128)
    (hw : w (ix2 r l) = yCell (v10 (ix2 r (bcol b hb l))) (v13 (ix2 r l)) (v16 (ix2 0 l)) (v20 (ix2 0 l)) (v25 (ix3 0 0 l)))
    (h16 : v16 (ix2 0 l) = ws (ix2 0 (bcol b hb l))) (h20 : v20 (ix2 0 l) = bias (ix2 0 (bcol b hb l)))
    (h25 : v25 (ix3 0 0 l) = gate (ix3 0 0 (bcol b hb l))) :
    w (ix2 r l) = yElt v10 v13 ws bias gate (ix2 r (bcol b hb l)) := by
  have hlane : lane (bcol b hb l).val = l := by
    refine Fin.ext ?_
    show (128 * b + l.val) % 128 = l.val
    omega
  rw [hw, h16, h20, h25]
  show _ = yCell _ (v13 (ix2 r (lane (bcol b hb l).val))) _ _ _
  rw [hlane]
  rfl

section Bands
variable (v7 : Vec F S1x1024x7168 .fp8e4m3) (v9 : Vec F S7168x1280 .fp8e4m3) (v12 : Vec F S1x1024x128 .f32) (v10 : FVec F S1024x1280 .f32) (v13 : FVec F S1024x128 .f32)
   (v16 : Vec F S1x128 .f32) (v20 : Vec F S1x128 .bf16) (v25 : Vec F S1x1x128 .bf16) (r : Fin 1024) (l : Fin 128)

/-- Band 0 at a row and a lane. -/
theorem band0 : k0_pay27 v7 v9 v12 v16 v20 v25 (ix2 r l) = yCell ((k0_pay25 v7 v9) (ix2 r (bcol 0 (by decide) l))) ((k0_pay26 v12) (ix2 r l)) (v16 (ix2 0 l)) (v20 (ix2 0 l)) (v25 (ix3 0 0 l)) := by
  pointwise [k0_pay27, k0_pay26]
  simp only [yCell, bcol, Nat.mul_zero, Nat.zero_add]

/-- Band 1 at a row and a lane. -/
theorem band1 : k0_pay29 (k0_pay28 v7 v9 v12 v16 v20) v25 (ix2 r l) = yCell ((k0_pay25 v7 v9) (ix2 r (bcol 1 (by decide) l))) ((k0_pay26 v12) (ix2 r l)) (v16 (ix2 0 l)) (v20 (ix2 0 l)) (v25 (ix3 0 0 l)) := by
  pointwise [k0_pay29, k0_pay28, k0_pay26]
  simp only [yCell, bcol]

/-- Band 2 at a row and a lane. -/
theorem band2 : k0_pay30 v10 v13 v16 v20 v25 (ix2 r l) = yCell ((v10) (ix2 r (bcol 2 (by decide) l))) ((v13) (ix2 r l)) (v16 (ix2 0 l)) (v20 (ix2 0 l)) (v25 (ix3 0 0 l)) := by
  pointwise [k0_pay30]
  simp only [yCell, bcol]

/-- Band 3 at a row and a lane. -/
theorem band3 : k0_pay33 (k0_pay31 v10 v13 v16 v20) (k0_pay32 v25) (ix2 r l) = yCell ((v10) (ix2 r (bcol 3 (by decide) l))) ((v13) (ix2 r l)) (v16 (ix2 0 l)) (v20 (ix2 0 l)) (v25 (ix3 0 0 l)) := by
  pointwise [k0_pay33, k0_pay31, k0_pay32]
  simp only [yCell, bcol]

/-- Band 4 at a row and a lane. -/
theorem band4 : k0_pay34 v10 v13 v16 v20 v25 (ix2 r l) = yCell ((v10) (ix2 r (bcol 4 (by decide) l))) ((v13) (ix2 r l)) (v16 (ix2 0 l)) (v20 (ix2 0 l)) (v25 (ix3 0 0 l)) := by
  pointwise [k0_pay34]
  simp only [yCell, bcol]

/-- Band 5 at a row and a lane. -/
theorem band5 : k0_pay35 v10 v13 v16 v20 v25 (ix2 r l) = yCell ((v10) (ix2 r (bcol 5 (by decide) l))) ((v13) (ix2 r l)) (v16 (ix2 0 l)) (v20 (ix2 0 l)) (v25 (ix3 0 0 l)) := by
  pointwise [k0_pay35]
  simp only [yCell, bcol]

/-- Band 6 at a row and a lane. -/
theorem band6 : k0_pay36 v10 v13 v16 v20 v25 (ix2 r l) = yCell ((v10) (ix2 r (bcol 6 (by decide) l))) ((v13) (ix2 r l)) (v16 (ix2 0 l)) (v20 (ix2 0 l)) (v25 (ix3 0 0 l)) := by
  pointwise [k0_pay36]
  simp only [yCell, bcol]

/-- Band 7 at a row and a lane. -/
theorem band7 : k0_pay37 v10 v13 v16 v20 v25 (ix2 r l) = yCell ((v10) (ix2 r (bcol 7 (by decide) l))) ((v13) (ix2 r l)) (v16 (ix2 0 l)) (v20 (ix2 0 l)) (v25 (ix3 0 0 l)) := by
  pointwise [k0_pay37]
  simp only [yCell, bcol]

/-- Band 8 at a row and a lane. -/
theorem band8 : k0_pay4 v13 (k0_pay38 v10) v16 v20 v25 (ix2 r l) = yCell ((v10) (ix2 r (bcol 8 (by decide) l))) ((v13) (ix2 r l)) (v16 (ix2 0 l)) (v20 (ix2 0 l)) (v25 (ix3 0 0 l)) := by
  pointwise [k0_pay4, k0_pay38]
  simp only [yCell, bcol]

/-- Band 9 at a row and a lane. -/
theorem band9 : k0_pay5 v10 v13 v16 v20 v25 (ix2 r l) = yCell ((v10) (ix2 r (bcol 9 (by decide) l))) ((v13) (ix2 r l)) (v16 (ix2 0 l)) (v20 (ix2 0 l)) (v25 (ix3 0 0 l)) := by
  pointwise [k0_pay5]
  simp only [yCell, bcol]

end Bands

/-- The slot the product reads, loaded from the codes' scratch, is what that slot held before the point's own stores. -/
theorem slab_load (i : grid0.Coords) (m : Memref sig .tc .vmem S2x1024x7168 .fp8e4m3) (g f : BufTy.Contents (Elt F) m.view.ty) {off : Fin 3 → ℕ}
    (inb : ∀ a, off a + S1x1024x7168.size a ≤ S2x1024x7168.size a) (h : off = ![1 - ((i 0).val % 2), 0, 0])
    (hg : ∀ y : S2x1024x7168.Idx, (y 0).val ≠ (i 0).val % 2 → m.view.read (Elt F) g y = m.view.read (Elt F) f y) :
    View.readAt (Elt F) m.view (Rect.unit (s := S2x1024x7168) off S1x1024x7168.size inb).toLoadRect g = slab ((i 0).val + 1) (m.view.read (Elt F) f) := by
  subst h
  funext j
  have hj : (j 0).val < 1 := (j 0).isLt
  have e : (Rect.unit (s := S2x1024x7168) ![1 - ((i 0).val % 2), 0, 0] S1x1024x7168.size inb).emb j
      = ix3 ⟨((i 0).val + 1) % 2, Nat.mod_lt _ (by decide)⟩ (j 1) (j 2) := by
    refine funext fun a => Fin.ext ?_
    fin_cases a
    · show 1 - (i 0).val % 2 + 1 * (j 0).val = ((i 0).val + 1) % 2
      omega
    · show 0 + 1 * (j 1).val = (j 1).val
      omega
    · show 0 + 1 * (j 2).val = (j 2).val
      omega
  refine (congrArg (m.view.read (Elt F) g) e).trans (hg _ ?_)
  show ((i 0).val + 1) % 2 ≠ (i 0).val % 2
  omega

/-- The same for the scales' scratch. -/
theorem slabS_load (i : grid0.Coords) (m : Memref sig .tc .vmem S2x1024x128 .f32) (g f : BufTy.Contents (Elt F) m.view.ty) {off : Fin 3 → ℕ}
    (inb : ∀ a, off a + S1x1024x128.size a ≤ S2x1024x128.size a) (h : off = ![1 - ((i 0).val % 2), 0, 0])
    (hg : ∀ y : S2x1024x128.Idx, (y 0).val ≠ (i 0).val % 2 → m.view.read (Elt F) g y = m.view.read (Elt F) f y) :
    View.readAt (Elt F) m.view (Rect.unit (s := S2x1024x128) off S1x1024x128.size inb).toLoadRect g = slabS ((i 0).val + 1) (m.view.read (Elt F) f) := by
  subst h
  funext j
  have hj : (j 0).val < 1 := (j 0).isLt
  have e : (Rect.unit (s := S2x1024x128) ![1 - ((i 0).val % 2), 0, 0] S1x1024x128.size inb).emb j
      = ix3 ⟨((i 0).val + 1) % 2, Nat.mod_lt _ (by decide)⟩ (j 1) (j 2) := by
    refine funext fun a => Fin.ext ?_
    fin_cases a
    · show 1 - (i 0).val % 2 + 1 * (j 0).val = ((i 0).val + 1) % 2
      omega
    · show 0 + 1 * (j 1).val = (j 1).val
      omega
    · show 0 + 1 * (j 2).val = (j 2).val
      omega
  refine (congrArg (m.view.read (Elt F) g) e).trans (hg _ ?_)
  show ((i 0).val + 1) % 2 ≠ (i 0).val % 2
  omega

end Cert.Kernel.Run
-- ==== Proof.Kernel.Point.lean ====
module

public import proofs.«01_k».proof.Proof.Gen.Kernel.Frame
public import proofs.«01_k».proof.Proof.Gen.Kernel.Loops
public import proofs.«01_k».proof.Proof.Kernel.Group
public import proofs.«01_k».proof.Proof.Kernel.Bands
public import Idealize.ShloMosaic.Lib.WritesUnit

@[expose] public section

set_option maxRecDepth 8192
set_option maxHeartbeats 400000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- One grid point: the chunk's codes and scales into their blocks and into the slot's slabs, and, past the first row of
    points, the product of the other slot's slab with the block of weights. -/
theorem body_run (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f12 : BufTy.Contents (Elt F) arg12.view.ty) (f13 : BufTy.Contents (Elt F) arg13.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (arg12.view.loc (c : Thread nD τ) ↦[arg12.view.set]{fullShare} f12) ∗ (arg13.view.loc (c : Thread nD τ) ↦[arg13.view.set]{fullShare} f13))
    ⊢ wp (M := 𝕄) frame (wpE (defs₀ (F := F)) Variants.none (c : Thread nD τ) none) Set.univ
      (cc0_adaln_fp8_linear i arg2 harg2 arg3 harg3 arg4 harg4 arg5 harg5 arg6 harg6 arg7 harg7 arg8 harg8 arg9 harg9 arg10 harg10 arg11 harg11 arg12 harg12 arg13 harg13)
      (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (∃ f, (arg9.view.loc (c : Thread nD τ) ↦[arg9.view.set]{fullShare} f) ∗ ⌜k0_cond3 i = 1#1 → ∀ y : S1024x1280.Idx, arg9.view.read (Elt F) f y = yBlk (slab ((i 0).val + 1) (arg12.view.read (Elt F) f12)) (slabS ((i 0).val + 1) (arg13.view.read (Elt F) f13)) (arg6.view.read (Elt F) X6) (arg7.view.read (Elt F) X7) (arg8.view.read (Elt F) X8) (arg5.view.read (Elt F) X5) y⌝)
      ∗ (∃ f, (arg10.view.loc (c : Thread nD τ) ↦[arg10.view.set]{fullShare} f) ∗ ⌜∀ y : S128x7168.Idx, arg10.view.read (Elt F) f y = codeAt (arg2.view.read (Elt F) X2) (arg3.view.read (Elt F) X3) (arg4.view.read (Elt F) X4) (y 0).val (y 1).val⌝)
      ∗ (∃ f, (arg11.view.loc (c : Thread nD τ) ↦[arg11.view.set]{fullShare} f) ∗ ⌜arg11.view.read (Elt F) f = diagSum (arg2.view.read (Elt F) X2) (arg3.view.read (Elt F) X3) (arg4.view.read (Elt F) X4) 3⌝)
      ∗ (∃ f, (arg12.view.loc (c : Thread nD τ) ↦[arg12.view.set]{fullShare} f) ∗ ⌜∀ y : S2x1024x7168.Idx, arg12.view.read (Elt F) f y =
          if (y 0).val = (i 0).val % 2 ∧ 128 * (i 1).val ≤ (y 1).val ∧ (y 1).val < 128 * (i 1).val + 128 then
            codeAt (arg2.view.read (Elt F) X2) (arg3.view.read (Elt F) X3) (arg4.view.read (Elt F) X4) ((y 1).val - 128 * (i 1).val) (y 2).val else arg12.view.read (Elt F) f12 y⌝)
      ∗ (∃ f, (arg13.view.loc (c : Thread nD τ) ↦[arg13.view.set]{fullShare} f) ∗ ⌜∀ y : S2x1024x128.Idx, arg13.view.read (Elt F) f y =
          if (y 0).val = (i 0).val % 2 ∧ 128 * (i 1).val ≤ (y 1).val ∧ (y 1).val < 128 * (i 1).val + 128 then
            scaleAt (arg2.view.read (Elt F) X2) (arg3.view.read (Elt F) X3) (arg4.view.read (Elt F) X4) ((y 1).val - 128 * (i 1).val) (y 2).val else arg13.view.read (Elt F) f13 y⌝))) := by
  rw [cc0_adaln_fp8_linear_eq_skeleton]
  unfold cc0_adaln_fp8_linear_skel
  iintro ⟨H2, H3, H4, H5, H6, H7, H8, ⟨%f9, H9⟩, ⟨%f10, H10⟩, ⟨%f11, H11⟩, H12, H13⟩
  iapply (Scf.wp_for_bind frame (wpE (defs₀ (F := F)) Variants.none (c : Thread nD τ) none) Set.univ _ _ _ k0_t1_ok _ _
    (fun k (_ : PUnit) => I1 c i arg2 harg2 arg3 harg3 arg4 harg4 arg5 harg5 arg6 harg6 arg7 harg7 arg8 harg8 arg9 harg9 arg10 harg10 arg11 harg11 arg12 harg12 arg13 harg13 X2 X3 X4 f12 f13 k)
    (fun k acc => step1 c i arg2 harg2 arg3 harg3 arg4 harg4 arg5 harg5 arg6 harg6 arg7 harg7 arg8 harg8 arg9 harg9 arg10 harg10 arg11 harg11 arg12 harg12 arg13 harg13 _ _ X2 X3 X4 f12 f13 k acc)) $$ [H2 H3 H4 H10 H11 H12 H13]
  · isplitl [H2]; · iexact H2
    isplitl [H3]; · iexact H3
    isplitl [H4]; · iexact H4
    isplitl [H10]
    · iexists f10
      isplitl [H10]; · iexact H10
      ipureintro; intro y hy; omega
    isplitl [H11]
    · iexists f11
      isplitl [H11]; · iexact H11
      ipureintro; intro n hn; omega
    isplitl [H12]
    · iexists f12
      isplitl [H12]; · iexact H12
      ipureintro; intro y; rw [if_neg (by omega)]
    · iexists f13
      isplitl [H13]; · iexact H13
      ipureintro; intro y; rw [if_neg (by omega)]
  iintro %acc ⟨H2, H3, H4, ⟨%g10, H10, %h10⟩, ⟨%g11, H11, %h11⟩, ⟨%g12, H12, %h12⟩, ⟨%g13, H13, %h13⟩⟩
  have ht : Scf.trips k0_t1_loop.lb k0_t1_loop.ub k0_t1_loop.st = 4 := trips_t1
  rw [ht] at h10 h11 h12 h13
  by_cases hc : k0_cond3 i = 1#1
  · rw [dif_pos hc]
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _
      isplitl [H9]; · iexact H9
      ipureintro
      intro _ y
      rw [← slab_load i arg12 g12 f12 (k0_off12_inb i hc) (k0_off12_eq i) (fun y hy => by rw [h12, if_neg (fun h => hy h.1)]),
        ← slabS_load i arg13 g13 f13 (k0_off13_inb i hc) (k0_off13_eq i) (fun y hy => by rw [h13, if_neg (fun h => hy h.1)]),
        ← View.readAt_full arg6.view X6 inb_S7168x1280_S7168x1280_0_0]
      refine band_read arg9 _ _ 9 (by decide) _ _ _ rfl (fun r l => band_eq _ _ _ _ _ _ 9 (by decide) _ _ _ r l (band9 _ _ _ _ _ _ _)
        (readAt_band2 arg7 X7 _ 9 (by decide) rfl l) (readAt_band2 arg8 X8 _ 9 (by decide) rfl l) (readAt_band3 arg5 X5 _ 9 (by decide) rfl l)) (
      band_read arg9 _ _ 8 (by decide) _ _ _ rfl (fun r l => band_eq _ _ _ _ _ _ 8 (by decide) _ _ _ r l (band8 _ _ _ _ _ _ _)
        (readAt_band2 arg7 X7 _ 8 (by decide) rfl l) (readAt_band2 arg8 X8 _ 8 (by decide) rfl l) (readAt_band3 arg5 X5 _ 8 (by decide) rfl l)) (
      band_read arg9 _ _ 7 (by decide) _ _ _ rfl (fun r l => band_eq _ _ _ _ _ _ 7 (by decide) _ _ _ r l (band7 _ _ _ _ _ _ _)
        (readAt_band2 arg7 X7 _ 7 (by decide) rfl l) (readAt_band2 arg8 X8 _ 7 (by decide) rfl l) (readAt_band3 arg5 X5 _ 7 (by decide) rfl l)) (
      band_read arg9 _ _ 6 (by decide) _ _ _ rfl (fun r l => band_eq _ _ _ _ _ _ 6 (by decide) _ _ _ r l (band6 _ _ _ _ _ _ _)
        (readAt_band2 arg7 X7 _ 6 (by decide) rfl l) (readAt_band2 arg8 X8 _ 6 (by decide) rfl l) (readAt_band3 arg5 X5 _ 6 (by decide) rfl l)) (
      band_read arg9 _ _ 5 (by decide) _ _ _ rfl (fun r l => band_eq _ _ _ _ _ _ 5 (by decide) _ _ _ r l (band5 _ _ _ _ _ _ _)
        (readAt_band2 arg7 X7 _ 5 (by decide) rfl l) (readAt_band2 arg8 X8 _ 5 (by decide) rfl l) (readAt_band3 arg5 X5 _ 5 (by decide) rfl l)) (
      band_read arg9 _ _ 4 (by decide) _ _ _ rfl (fun r l => band_eq _ _ _ _ _ _ 4 (by decide) _ _ _ r l (band4 _ _ _ _ _ _ _)
        (readAt_band2 arg7 X7 _ 4 (by decide) rfl l) (readAt_band2 arg8 X8 _ 4 (by decide) rfl l) (readAt_band3 arg5 X5 _ 4 (by decide) rfl l)) (
      band_read arg9 _ _ 3 (by decide) _ _ _ rfl (fun r l => band_eq _ _ _ _ _ _ 3 (by decide) _ _ _ r l (band3 _ _ _ _ _ _ _)
        (readAt_band2 arg7 X7 _ 3 (by decide) rfl l) (readAt_band2 arg8 X8 _ 3 (by decide) rfl l) (readAt_band3 arg5 X5 _ 3 (by decide) rfl l)) (
      band_read arg9 _ _ 2 (by decide) _ _ _ rfl (fun r l => band_eq _ _ _ _ _ _ 2 (by decide) _ _ _ r l (band2 _ _ _ _ _ _ _)
        (readAt_band2 arg7 X7 _ 2 (by decide) rfl l) (readAt_band2 arg8 X8 _ 2 (by decide) rfl l) (readAt_band3 arg5 X5 _ 2 (by decide) rfl l)) (
      band_read arg9 _ _ 1 (by decide) _ _ _ rfl (fun r l => band_eq _ _ _ _ _ _ 1 (by decide) _ _ _ r l (band1 _ _ _ _ _ _ _ _)
        (readAt_band2 arg7 X7 _ 1 (by decide) rfl l) (readAt_band2 arg8 X8 _ 1 (by decide) rfl l) (readAt_band3 arg5 X5 _ 1 (by decide) rfl l)) (
      band_read arg9 _ _ 0 (by decide) _ _ _ rfl (fun r l => band_eq _ _ _ _ _ _ 0 (by decide) _ _ _ r l (band0 _ _ _ _ _ _ _ _)
        (readAt_band2 arg7 X7 _ 0 (by decide) rfl l) (readAt_band2 arg8 X8 _ 0 (by decide) rfl l) (readAt_band3 arg5 X5 _ 0 (by decide) rfl l)) (
      fun y hy => absurd hy (Nat.not_lt_zero _))))))))))) y (y 1).isLt
    isplitl [H10]
    · iexists g10
      isplitl [H10]; · iexact H10
      ipureintro
      exact fun y => h10 y (y 0).isLt
    isplitl [H11]
    · iexists g11
      isplitl [H11]; · iexact H11
      ipureintro
      exact h11 3 rfl
    isplitl [H12]
    · iexists g12
      isplitl [H12]; · iexact H12
      ipureintro
      exact h12
    · iexists g13
      isplitl [H13]; · iexact H13
      ipureintro
      exact h13
  · rw [dif_neg hc]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _
      isplitl [H9]; · iexact H9
      ipureintro
      exact fun h => absurd h hc
    isplitl [H10]
    · iexists g10
      isplitl [H10]; · iexact H10
      ipureintro
      exact fun y => h10 y (y 0).isLt
    isplitl [H11]
    · iexists g11
      isplitl [H11]; · iexact H11
      ipureintro
      exact h11 3 rfl
    isplitl [H12]
    · iexists g12
      isplitl [H12]; · iexact H12
      ipureintro
      exact h12
    · iexists g13
      isplitl [H13]; · iexact H13
      ipureintro
      exact h13

end Cert.Kernel.Run
-- ==== Proof.Kernel.Run.lean ====
module

public import proofs.«01_k».proof.Proof.Gen.Kernel.Frame
public import proofs.«01_k».proof.Proof.Gen.Kernel.Points
public import proofs.«01_k».proof.Proof.Kernel.Point
public import Idealize.ShloMosaic.Lib.Pipeline.ArrRel

@[expose] public section

set_option maxRecDepth 16384
set_option maxHeartbeats 400000

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `p` of the grid. -/
def pt (p : ℕ) : Fin cfg0.N := ⟨p % 264, by rw [show cfg0.N = 264 from N_0]; exact Nat.mod_lt _ (by decide)⟩

theorem pt_val (t : Fin cfg0.N) : pt t.val = t := by
  have h : t.val < 264 := Nat.lt_of_lt_of_eq t.isLt N_0
  exact Fin.ext (Nat.mod_eq_of_lt h)

/-- A point's row of points and its place in that row. -/
theorem coords_val : ∀ t : Fin cfg0.N, ((grid0.coords t) 0).val = t.val / 8 ∧ ((grid0.coords t) 1).val = t.val % 8 := by
  decide +kernel

/-- The chunk of rows, its scale row and its shift row that a point is handed. -/
def xAt (c : Dev nD) (t : Fin cfg0.N) : Vec F S128x7168 .bf16 := iblk m c 0 t
@[inherit_doc xAt] def sAt (c : Dev nD) (t : Fin cfg0.N) : Vec F S1x1x7168 .bf16 := iblk m c 1 t
@[inherit_doc xAt] def hAt (c : Dev nD) (t : Fin cfg0.N) : Vec F S1x1x7168 .bf16 := iblk m c 2 t
/-- The gate's, the weights', the weights' scales' and the bias's columns that a point is handed. -/
def gAt (c : Dev nD) (t : Fin cfg0.N) : Vec F S1x1x1280 .bf16 := iblk m c 3 t
@[inherit_doc gAt] def wAt (c : Dev nD) (t : Fin cfg0.N) : Vec F S7168x1280 .fp8e4m3 := iblk m c 4 t
@[inherit_doc gAt] def wsAt (c : Dev nD) (t : Fin cfg0.N) : Vec F S1x1280 .f32 := iblk m c 5 t
@[inherit_doc gAt] def bAt (c : Dev nD) (t : Fin cfg0.N) : Vec F S1x1280 .bf16 := iblk m c 6 t

/-- The code that point `p` gives its row `r` at column `l`. -/
def codeT (c : Dev nD) (p r l : ℕ) : Elt F .fp8e4m3 := codeAt (xAt m c (pt p)) (sAt m c (pt p)) (hAt m c (pt p)) r l
/-- The scale that point `p` gives its row `r`. -/
def scaleT (c : Dev nD) (p r l : ℕ) : Elt F .f32 := scaleAt (xAt m c (pt p)) (sAt m c (pt p)) (hAt m c (pt p)) r l

/-- The codes of the eight chunks from point `q` on, as one slab. -/
def slabT (c : Dev nD) (q : ℕ) : Vec F S1x1024x7168 .fp8e4m3 := fun y => codeT m c (q + (y 1).val / 128) ((y 1).val % 128) (y 2).val
/-- Their scales. -/
def slabST (c : Dev nD) (q : ℕ) : Vec F S1x1024x128 .f32 := fun y => scaleT m c (q + (y 1).val / 128) ((y 1).val % 128) (y 2).val

/-- The block of the product that point `t` leaves: of the chunks of the row of points before. -/
def yT (c : Dev nD) (t : Fin cfg0.N) : Vec F S1024x1280 .bf16 :=
  yBlk (slabT m c (8 * (t.val / 8 - 1))) (slabST m c (8 * (t.val / 8 - 1))) (wAt m c t) (wsAt m c t) (bAt m c t) (gAt m c t)

/-- What the two scratch buffers hold before point `n`: what the last sixteen points stored. -/
def ScrOK (c : Dev nD) (n : ℕ) (C : Vec F S2x1024x7168 .fp8e4m3) (D : Vec F S2x1024x128 .f32) : Prop :=
  ∀ p, p < n → n ≤ p + 16 →
    (∀ y : S2x1024x7168.Idx, (y 0).val = (p / 8) % 2 → (y 1).val / 128 = p % 8 → C y = codeT m c p ((y 1).val % 128) (y 2).val)
    ∧ (∀ y : S2x1024x128.Idx, (y 0).val = (p / 8) % 2 → (y 1).val / 128 = p % 8 → D y = scaleT m c p ((y 1).val % 128) (y 2).val)

/-- The scratch buffers as the body is handed them. -/
abbrev scr0 : Memref sig .tc .vmem S2x1024x7168 .fp8e4m3 := Memref.whole cc0_scratch0
@[inherit_doc scr0] abbrev scr1 : Memref sig .tc .vmem S2x1024x128 .f32 := Memref.whole cc0_scratch1

/-- The invariant before point `n`. -/
def Phi (c : Dev nD) (n : ℕ) : sProp 𝕄 :=
  iprop((∃ f g, ⌜ScrOK m c n (scr0.view.read (Elt F) f) (scr1.view.read (Elt F) g)⌝
    ∗ (scr0.view.loc (c : Thread nD τ) ↦[scr0.view.set]{fullShare} f) ∗ (scr1.view.loc (c : Thread nD τ) ↦[scr1.view.set]{fullShare} g))
    ∗ ∃ r, prngReg c r)

/-- The proof data: inputs left as found; the codes' and the scales' blocks at what the chunk gives; the product's block
    at `yT` past the first row of points. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => 8 ≤ t.val → ∀ y : S1024x1280.Idx, X y = yT m c t y
    | ⟨8, _⟩ => fun _ X => ∀ y : S128x7168.Idx, X y = codeT m c t.val (y 0).val (y 1).val
    | ⟨9, _⟩ => fun _ X => ∀ y : S1x1x128.Idx, X y = diagSum (xAt m c t) (sAt m c t) (hAt m c t) 3 y
  Φ n := Phi m c n.val
  q _ := fullShare
  owed _ := 0

theorem A_eq (c : Dev nD) (w : Fin cfg0.W) : (rdat m c).A w = V m c (Pipeline.arrRef spec0 w) := by
  dsimp only [rdat]

theorem finds_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, (rdat m c).after w t Y X → X = Y) (t : Fin cfg0.N)
    (Y : (cfg0.win w).block.Idx → Elt F (cfg0.win w).elt) (hY : (rdat m c).Finds w t Y) :
    ∃ d, Y = (cfg0.win w).fill (cfg0.grid.coords t) d (iblk m c w t) :=
  RDat.finds_in_eq_fetched (rdat m c) w hw hclip hkeep t Y hY

theorem finds0 (c : Dev nD) (t : Fin cfg0.N) (Y : S128x7168.Idx → Elt F .bf16) (h : (rdat m c).Finds 0 t Y) : Y = xAt m c t := by
  obtain ⟨d, hd⟩ := finds_in m c 0 rfl (fun _ _ _ => rfl) (fun _ _ _ h => h) t Y h
  exact hd.trans rfl
theorem finds1 (c : Dev nD) (t : Fin cfg0.N) (Y : S1x1x7168.Idx → Elt F .bf16) (h : (rdat m c).Finds 1 t Y) : Y = sAt m c t := by
  obtain ⟨d, hd⟩ := finds_in m c 1 rfl (fun _ _ _ => rfl) (fun _ _ _ h => h) t Y h
  exact hd.trans rfl
theorem finds2 (c : Dev nD) (t : Fin cfg0.N) (Y : S1x1x7168.Idx → Elt F .bf16) (h : (rdat m c).Finds 2 t Y) : Y = hAt m c t := by
  obtain ⟨d, hd⟩ := finds_in m c 2 rfl (fun _ _ _ => rfl) (fun _ _ _ h => h) t Y h
  exact hd.trans rfl
theorem finds3 (c : Dev nD) (t : Fin cfg0.N) (Y : S1x1x1280.Idx → Elt F .bf16) (h : (rdat m c).Finds 3 t Y) : Y = gAt m c t := by
  obtain ⟨d, hd⟩ := finds_in m c 3 rfl (fun _ _ _ => rfl) (fun _ _ _ h => h) t Y h
  exact hd.trans rfl
theorem finds4 (c : Dev nD) (t : Fin cfg0.N) (Y : S7168x1280.Idx → Elt F .fp8e4m3) (h : (rdat m c).Finds 4 t Y) : Y = wAt m c t := by
  obtain ⟨d, hd⟩ := finds_in m c 4 rfl (fun _ _ _ => rfl) (fun _ _ _ h => h) t Y h
  exact hd.trans rfl
theorem finds5 (c : Dev nD) (t : Fin cfg0.N) (Y : S1x1280.Idx → Elt F .f32) (h : (rdat m c).Finds 5 t Y) : Y = wsAt m c t := by
  obtain ⟨d, hd⟩ := finds_in m c 5 rfl (fun _ _ _ => rfl) (fun _ _ _ h => h) t Y h
  exact hd.trans rfl
theorem finds6 (c : Dev nD) (t : Fin cfg0.N) (Y : S1x1280.Idx → Elt F .bf16) (h : (rdat m c).Finds 6 t Y) : Y = bAt m c t := by
  obtain ⟨d, hd⟩ := finds_in m c 6 rfl (fun _ _ _ => rfl) (fun _ _ _ h => h) t Y h
  exact hd.trans rfl

/-- A point's stores into the scratch buffers keep what the last sixteen points stored. -/
theorem scr_step (c : Dev nD) (t : Fin cfg0.N) (C C' : Vec F S2x1024x7168 .fp8e4m3) (D D' : Vec F S2x1024x128 .f32) (h : ScrOK m c t.val C D)
    (hC : ∀ y : S2x1024x7168.Idx, C' y =
      if (y 0).val = ((grid0.coords t) 0).val % 2 ∧ 128 * ((grid0.coords t) 1).val ≤ (y 1).val ∧ (y 1).val < 128 * ((grid0.coords t) 1).val + 128 then
        codeAt (xAt m c t) (sAt m c t) (hAt m c t) ((y 1).val - 128 * ((grid0.coords t) 1).val) (y 2).val else C y)
    (hD : ∀ y : S2x1024x128.Idx, D' y =
      if (y 0).val = ((grid0.coords t) 0).val % 2 ∧ 128 * ((grid0.coords t) 1).val ≤ (y 1).val ∧ (y 1).val < 128 * ((grid0.coords t) 1).val + 128 then
        scaleAt (xAt m c t) (sAt m c t) (hAt m c t) ((y 1).val - 128 * ((grid0.coords t) 1).val) (y 2).val else D y) :
    ScrOK m c (t.val + 1) C' D' := by
  obtain ⟨e0, e1⟩ := coords_val t
  rw [e0, e1] at hC hD
  intro p hp hp'
  rcases Nat.lt_succ_iff_lt_or_eq.mp hp with hlt | rfl
  · obtain ⟨h1, h2⟩ := h p hlt (by omega)
    refine ⟨fun y hy0 hy1 => ?_, fun y hy0 hy1 => ?_⟩
    · rw [hC, if_neg (by omega)]; exact h1 y hy0 hy1
    · rw [hD, if_neg (by omega)]; exact h2 y hy0 hy1
  · refine ⟨fun y hy0 hy1 => ?_, fun y hy0 hy1 => ?_⟩
    · rw [hC, if_pos (by omega), show (y 1).val - 128 * (t.val % 8) = (y 1).val % 128 by omega]
      unfold codeT; rw [pt_val]
    · rw [hD, if_pos (by omega), show (y 1).val - 128 * (t.val % 8) = (y 1).val % 128 by omega]
      unfold scaleT; rw [pt_val]

/-- The slot the product reads holds the chunks of the row of points before. -/
theorem scr_slab (c : Dev nD) (t : Fin cfg0.N) (C : Vec F S2x1024x7168 .fp8e4m3) (D : Vec F S2x1024x128 .f32) (h : ScrOK m c t.val C D) (ht : 8 ≤ t.val) :
    slab (((grid0.coords t) 0).val + 1) C = slabT m c (8 * (t.val / 8 - 1)) ∧ slabS (((grid0.coords t) 0).val + 1) D = slabST m c (8 * (t.val / 8 - 1)) := by
  obtain ⟨e0, e1⟩ := coords_val t
  constructor
  · funext y
    have hy : (y 1).val < 1024 := (y 1).isLt
    refine (h (8 * (t.val / 8 - 1) + (y 1).val / 128) (by omega) (by omega)).1 _ ?_ ?_
    · show (((grid0.coords t) 0).val + 1) % 2 = _
      rw [e0]; omega
    · show (y 1).val / 128 = _
      omega
  · funext y
    have hy : (y 1).val < 1024 := (y 1).isLt
    refine (h (8 * (t.val / 8 - 1) + (y 1).val / 128) (by omega) (by omega)).2 _ ?_ ?_
    · show (((grid0.coords t) 0).val + 1) % 2 = _
      rw [e0]; omega
    · show (y 1).val / 128 = _
      omega

/-- The product is taken past the first row of points. -/
theorem cond3_of : ∀ t : Fin cfg0.N, 8 ≤ t.val → k0_cond3 (grid0.coords t) = 1#1 := by
  decide +kernel

theorem defs₀_row (t : Fin cfg0.N) :
    defs₀ (F := F) .tc cfg0.body (cfg0.bodyArgs t (cfg0.slots t)) = bodyAt0 t := by
  unfold defs₀; rw [Defs.onTc_tc]

/-- The body at a point, on the windows' blocks. -/
theorem body_pt (c : Dev nD) (t : Fin cfg0.N) (Y0 : S128x7168.Idx → Elt F .bf16) (Y1 Y2 : S1x1x7168.Idx → Elt F .bf16) (Y3 : S1x1x1280.Idx → Elt F .bf16)
    (Y4 : S7168x1280.Idx → Elt F .fp8e4m3) (Y5 : S1x1280.Idx → Elt F .f32) (Y6 : S1x1280.Idx → Elt F .bf16) (Y7 : S1024x1280.Idx → Elt F .bf16)
    (Y8 : S128x7168.Idx → Elt F .fp8e4m3) (Y9 : S1x1x128.Idx → Elt F .f32)
    (h0 : Y0 = xAt m c t) (h1 : Y1 = sAt m c t) (h2 : Y2 = hAt m c t) (h3 : Y3 = gAt m c t) (h4 : Y4 = wAt m c t) (h5 : Y5 = wsAt m c t) (h6 : Y6 = bAt m c t) :
    iprop((rdat m c).Φ t.castSucc ∗ (rdat m c).owesAt () t.castSucc
      ∗ (owns (c : Thread nD τ) (st0_0 t) fullShare Y0 ∗ owns (c : Thread nD τ) (st0_1 t) fullShare Y1 ∗ owns (c : Thread nD τ) (st0_2 t) fullShare Y2
      ∗ owns (c : Thread nD τ) (st0_3 t) fullShare Y3 ∗ owns (c : Thread nD τ) (st0_4 t) fullShare Y4 ∗ owns (c : Thread nD τ) (st0_5 t) fullShare Y5
      ∗ owns (c : Thread nD τ) (st0_6 t) fullShare Y6 ∗ owns (c : Thread nD τ) (st0_7 t) fullShare Y7 ∗ owns (c : Thread nD τ) (st0_8 t) fullShare Y8
      ∗ owns (c : Thread nD τ) (st0_9 t) fullShare Y9))
    ⊢ wp (M := 𝕄) frame (wpE (defs₀ (F := F)) Variants.none (c : Thread nD τ) none) Set.univ (bodyAt0 t) (fun _ =>
      iprop((rdat m c).Φ t.succ ∗ (rdat m c).owesAt () t.succ
      ∗ ((∃ X, ⌜(rdat m c).after 0 t Y0 X⌝ ∗ owns (c : Thread nD τ) (st0_0 t) fullShare X) ∗ (∃ X, ⌜(rdat m c).after 1 t Y1 X⌝ ∗ owns (c : Thread nD τ) (st0_1 t) fullShare X)
      ∗ (∃ X, ⌜(rdat m c).after 2 t Y2 X⌝ ∗ owns (c : Thread nD τ) (st0_2 t) fullShare X) ∗ (∃ X, ⌜(rdat m c).after 3 t Y3 X⌝ ∗ owns (c : Thread nD τ) (st0_3 t) fullShare X)
      ∗ (∃ X, ⌜(rdat m c).after 4 t Y4 X⌝ ∗ owns (c : Thread nD τ) (st0_4 t) fullShare X) ∗ (∃ X, ⌜(rdat m c).after 5 t Y5 X⌝ ∗ owns (c : Thread nD τ) (st0_5 t) fullShare X)
      ∗ (∃ X, ⌜(rdat m c).after 6 t Y6 X⌝ ∗ owns (c : Thread nD τ) (st0_6 t) fullShare X) ∗ (∃ X, ⌜(rdat m c).after 7 t Y7 X⌝ ∗ owns (c : Thread nD τ) (st0_7 t) fullShare X)
      ∗ (∃ X, ⌜(rdat m c).after 8 t Y8 X⌝ ∗ owns (c : Thread nD τ) (st0_8 t) fullShare X) ∗ (∃ X, ⌜(rdat m c).after 9 t Y9 X⌝ ∗ owns (c : Thread nD τ) (st0_9 t) fullShare X)))) := by
  rw [show (rdat m c).Φ t.castSucc = Phi m c t.val from rfl, show (rdat m c).Φ t.succ = Phi m c (t.val + 1) from rfl]
  unfold RDat.owesAt Pipeline.owesWithin Phi owns bodyAt0
  rw [show (rdat m c).owed t.castSucc = 0 from rfl, show (rdat m c).owed t.succ = 0 from rfl]
  iintro ⟨⟨⟨%f12, %f13, %hS, HS0, HS1⟩, Hg⟩, ⟨%W, -, HW⟩, ⟨%f0, %r0, H0⟩, ⟨%f1, %r1, H1⟩, ⟨%f2, %r2, H2⟩, ⟨%f3, %r3, H3⟩, ⟨%f4, %r4, H4⟩,
    ⟨%f5, %r5, H5⟩, ⟨%f6, %r6, H6⟩, ⟨%f7, %r7, H7⟩, ⟨%f8, %r8, H8⟩, ⟨%f9, %r9, H9⟩⟩
  iapply (wp_wand_r frame (wpE (defs₀ (F := F)) Variants.none (c : Thread nD τ) none) Set.univ)
  isplitl [H0 H1 H2 H3 H4 H5 H6 H7 H8 H9 HS0 HS1]
  · iapply (body_run c (grid0.coords t) _ _ _ _ _ _ _ _ _ _ _ _ _ _ _ _ _ _ _ _ _ _ _ _ f0 f1 f2 f3 f4 f5 f6 f12 f13)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists f7
      iexact H7
    isplitl [H8]
    · iexists f8
      iexact H8
    isplitl [H9]
    · iexists f9
      iexact H9
    isplitl [HS0]; · iexact HS0
    iexact HS1
  iintro %r ⟨H0, H1, H2, H3, H4, H5, H6, ⟨%g7, H7, %q7⟩, ⟨%g8, H8, %q8⟩, ⟨%g9, H9, %q9⟩, ⟨%g12, HS0, %q12⟩, ⟨%g13, HS1, %q13⟩⟩
  rw [show (st0_0 t).view.read (Elt F) f0 = xAt m c t from r0.trans h0, show (st0_1 t).view.read (Elt F) f1 = sAt m c t from r1.trans h1,
    show (st0_2 t).view.read (Elt F) f2 = hAt m c t from r2.trans h2] at q8 q9 q12 q13
  isplitl [HS0 HS1 Hg]
  · isplitl [HS0 HS1]
    · iexists g12; iexists g13
      isplitr
      · ipureintro
        exact scr_step m c t _ _ _ _ hS q12 q13
      isplitl [HS0]; · iexact HS0
      iexact HS1
    iexact Hg
  isplitl [HW]
  · iexists W; isplitr; · ipureintro; exact fun _ _ => Or.inl trivial
    iexact HW
  isplitl [H0]
  · iexists Y0; isplitr; · ipureintro; rfl
    iexists f0; isplitr; · ipureintro; exact r0
    iexact H0
  isplitl [H1]
  · iexists Y1; isplitr; · ipureintro; rfl
    iexists f1; isplitr; · ipureintro; exact r1
    iexact H1
  isplitl [H2]
  · iexists Y2; isplitr; · ipureintro; rfl
    iexists f2; isplitr; · ipureintro; exact r2
    iexact H2
  isplitl [H3]
  · iexists Y3; isplitr; · ipureintro; rfl
    iexists f3; isplitr; · ipureintro; exact r3
    iexact H3
  isplitl [H4]
  · iexists Y4; isplitr; · ipureintro; rfl
    iexists f4; isplitr; · ipureintro; exact r4
    iexact H4
  isplitl [H5]
  · iexists Y5; isplitr; · ipureintro; rfl
    iexists f5; isplitr; · ipureintro; exact r5
    iexact H5
  isplitl [H6]
  · iexists Y6; isplitr; · ipureintro; rfl
    iexists f6; isplitr; · ipureintro; exact r6
    iexact H6
  isplitl [H7]
  · iexists ((st0_7 t).view.read (Elt F) g7); isplitr
    · ipureintro
      intro ht y
      refine (q7 (cond3_of t ht) y).trans ?_
      obtain ⟨s1, s2⟩ := scr_slab m c t _ _ hS ht
      rw [s1, s2, show (st0_4 t).view.read (Elt F) f4 = wAt m c t from r4.trans h4, show (st0_5 t).view.read (Elt F) f5 = wsAt m c t from r5.trans h5,
        show (st0_6 t).view.read (Elt F) f6 = bAt m c t from r6.trans h6, show (st0_3 t).view.read (Elt F) f3 = gAt m c t from r3.trans h3]
      rfl
    iexists g7; isplitr; · ipureintro; rfl
    iexact H7
  isplitl [H8]
  · iexists ((st0_8 t).view.read (Elt F) g8); isplitr
    · ipureintro
      intro y
      refine (q8 y).trans ?_
      unfold codeT; rw [pt_val]
    iexists g8; isplitr; · ipureintro; rfl
    iexact H8
  iexists ((st0_9 t).view.read (Elt F) g9); isplitr
  · ipureintro
    exact fun y => congrFun q9 y
  iexists g9; isplitr; · ipureintro; rfl
  iexact H9

/-- One point of the grid keeps the invariant and leaves each window's block as the proof data say. -/
theorem body_obligation (c : Dev nD) : (rdat (F := F) m c).BodyObligation (defs₀ (F := F)) Variants.none () Set.univ := by
  intro t Y hY
  rw [bigSep_W0, bigSep_W0, defs₀_row]
  obtain ⟨e0, e1⟩ := coords_val t
  have y0 := finds0 m c t (Y 0) (hY 0)
  have y1 := finds1 m c t (Y 1) (hY 1)
  have y2 := finds2 m c t (Y 2) (hY 2)
  have y3 := finds3 m c t (Y 3) (hY 3)
  have y4 := finds4 m c t (Y 4) (hY 4)
  have y5 := finds5 m c t (Y 5) (hY 5)
  have y6 := finds6 m c t (Y 6) (hY 6)
  clear hY
  refine triple_restated (body_pt m c t (Y 0) (Y 1) (Y 2) (Y 3) (Y 4) (Y 5) (Y 6) (Y 7) (Y 8) (Y 9) y0 y1 y2 y3 y4 y5 y6) rfl .rfl fun _ => .rfl

/-- A whole scratch buffer, as the body holds it and as the launch hands it over. -/
theorem scr0_eq (c : Dev nD) (f : Buf (Elt F) ((c : Thread nD τ).loc cc0_scratch0)) :
    ((scr0.view.loc (c : Thread nD τ) ↦[scr0.view.set]{fullShare} f : sProp 𝕄)) = (((c : Thread nD τ).loc cc0_scratch0) ↦{fullShare} f) := by
  rw [show scr0.view.set = Finset.univ from View.set_whole _]
@[inherit_doc scr0_eq] theorem scr1_eq (c : Dev nD) (f : Buf (Elt F) ((c : Thread nD τ).loc cc0_scratch1)) :
    ((scr1.view.loc (c : Thread nD τ) ↦[scr1.view.set]{fullShare} f : sProp 𝕄)) = (((c : Thread nD τ).loc cc0_scratch1) ↦{fullShare} f) := by
  rw [show scr1.view.set = Finset.univ from View.set_whole _]

/-- Before the first point the scratch buffers may hold anything. -/
theorem hin (c : Dev nD) : (Pipeline.ΦA spec0 c : sProp 𝕄) ⊢ (rdat (F := F) m c).Φ 0 := by
  rw [show (rdat (F := F) m c).Φ 0 = Phi m c 0 from rfl]
  unfold Pipeline.ΦA Phi
  rw [scopedRest0_eq]
  iintro ⟨⟨⟨%f, H0⟩, ⟨%g, H1⟩⟩, Hg⟩
  isplitl [H0 H1]
  · iexists f; iexists g
    isplitr
    · ipureintro
      exact fun p hp => absurd hp (Nat.not_lt_zero _)
    rw [scr0_eq, scr1_eq]
    isplitl [H0]; · iexact H0
    iexact H1
  iexact Hg

/-- After the last point they are forgotten. -/
theorem hout (c : Dev nD) : (rdat (F := F) m c).Φ (Fin.last cfg0.N) ⊢ (Pipeline.ΦA spec0 c : sProp 𝕄) := by
  rw [show (rdat (F := F) m c).Φ (Fin.last cfg0.N) = Phi m c cfg0.N from rfl]
  unfold Pipeline.ΦA Phi
  rw [scopedRest0_eq]
  iintro ⟨⟨%f, %g, -, H0, H1⟩, Hg⟩
  isplitl [H0 H1]
  · isplitl [H0]
    · iexists f; rw [← scr0_eq]; iexact H0
    iexists g; rw [← scr1_eq]; iexact H1
  iexact Hg

theorem share_full (c : Dev nD) (w : Fin cfg0.W) : (rdat (F := F) m c).share w = fullShare := by
  unfold RDat.share
  split
  · rfl
  · rfl

set_option backward.isDefEq.respectTransparency.types false in
/-- The run: every array ends at something the proof data allow, every other buffer as the region found it, and every
    semaphore at zero. -/
theorem run_main : θ_run defs (onTc (τ := τ) (main (F := F))) (s₀ m ρ)
    (fun r => RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := share_full m) (howed := fun _ _ => rfl) (V := V m) (hmain := hmain m Variants.none)
    (hA := A_eq m) (hin := hin m) (hout := hout m) (hQ' := fun _ h => h)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (RDat.FramePost.arr_in h.1 c 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.Kernel.Run
-- ==== Proof.KernelIdeal.Columns.lean ====
module

public import proofs.«01_k».proof.Proof.Gen.KernelIdeal.Frame
public import proofs.«01_k».proof.Proof.Gen.KernelIdeal.Loops
public import Idealize.ShloMosaic.Lib.Pointwise

@[expose] public section

set_option maxRecDepth 8192
set_option maxHeartbeats 400000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The 32 rows of group `g` and the 128 columns of block `k` of a chunk of 128 rows. -/
def blk (B : Vec F S128x7168 .bf16) (g k : ℕ) : Vec F S32x128 .bf16 := fun j =>
  B (ix2 ⟨(32 * g + (j 0).val) % 128, Nat.mod_lt _ (by decide)⟩ ⟨(128 * k + (j 1).val) % 7168, Nat.mod_lt _ (by decide)⟩)

/-- The 128 columns of block `k` of a row. -/
def rowBlk (B : Vec F S1x1x7168 .bf16) (k : ℕ) : Vec F S1x128 .bf16 := fun j =>
  B (ix3 0 0 ⟨(128 * k + (j 1).val) % 7168, Nat.mod_lt _ (by decide)⟩)

/-- The running total of a group's column blocks. -/
def totFrom (init : FVec F S32x128 .f32) (B : Vec F S128x7168 .bf16) (g : ℕ) : ℕ → FVec F S32x128 .f32
  | 0 => init
  | k + 1 => k0_pay9 (totFrom init B g k) (blk B g (k + 1))

/-- The running sum of a group's squared deviations. -/
def sqFrom (v16 init : FVec F S32x128 .f32) (B : Vec F S128x7168 .bf16) (g : ℕ) : ℕ → FVec F S32x128 .f32
  | 0 => init
  | k + 1 => k0_pay12 v16 (sqFrom v16 init B g k) (blk B g (k + 1))

/-- The running maximum of a group's modulated values in absolute value. -/
def maxFrom (v20 v36 : FVec F S32x1 .f32) (init : FVec F S32x128 .f32) (B : Vec F S128x7168 .bf16) (S H : Vec F S1x1x7168 .bf16) (g : ℕ) :
    ℕ → FVec F S32x128 .f32
  | 0 => init
  | k + 1 => k0_pay16 v20 v36 (maxFrom v20 v36 init B S H g k) (blk B g (k + 1)) (rowBlk S (k + 1)) (rowBlk H (k + 1))

theorem trips_t1 : k0_t1_loop.trips = 4 := by rfl
theorem trips_t2 : k0_t2_loop.trips = 55 := by rfl
theorem trips_t3 : k0_t3_loop.trips = 55 := by rfl
theorem trips_t4 : k0_t4_loop.trips = 55 := by rfl
theorem trips_t5 : k0_t5_loop.trips = 56 := by rfl

/-- A window of a chunk at a group's rows and a block's columns is that block. -/
theorem ld_blk (B : Vec F S128x7168 .bf16) (off : Fin 2 → ℕ) (inb : ∀ a, off a + S32x128.size a ≤ S128x7168.size a) (g k : ℕ)
    (h0 : off 0 = 32 * g) (h1 : off 1 = 128 * k) :
    View.ld B (Rect.unit (s := S128x7168) off S32x128.size inb) = blk B g k := by
  funext j
  have e0 := inb 0
  have e1 := inb 1
  have b0 : (j 0).val < 32 := (j 0).isLt
  have b1 : (j 1).val < 128 := (j 1).isLt
  change off 0 + 32 ≤ 128 at e0
  change off 1 + 128 ≤ 7168 at e1
  refine congrArg B (funext fun a => Fin.ext ?_)
  fin_cases a
  · show off 0 + 1 * (j 0).val = (32 * g + (j 0).val) % 128
    rw [Nat.mod_eq_of_lt (by omega)]; omega
  · show off 1 + 1 * (j 1).val = (128 * k + (j 1).val) % 7168
    rw [Nat.mod_eq_of_lt (by omega)]; omega

/-- A load of a chunk at a group's rows and a block's columns reads that block. -/
theorem readAt_blk (arg2 : Memref sig .tc .vmem S128x7168 .bf16) (X2 : BufTy.Contents (Elt F) arg2.view.ty) {off : Fin 2 → ℕ}
    (inb : ∀ a, off a + S32x128.size a ≤ S128x7168.size a) (g k : ℕ) (h : off = ![32 * g, 128 * k]) :
    View.readAt (Elt F) arg2.view (Rect.unit (s := S128x7168) off S32x128.size inb).toLoadRect X2 = blk (arg2.view.read (Elt F) X2) g k :=
  ld_blk _ off inb g k (by rw [h]; rfl) (by rw [h]; rfl)

/-- A load of a per-sample row at a block's columns, through the row's two-dimensional view, reads that block. -/
theorem readAt_row (m : Memref sig .tc .vmem S1x1x7168 .bf16) (X : BufTy.Contents (Elt F) m.view.ty) {off : Fin 2 → ℕ}
    (inb : ∀ a, off a + S1x128.size a ≤ S1x7168.size a) (k : ℕ) (h : off = ![0, 128 * k]) :
    View.readAt (Elt F) ((m.slice (Rect.unit (s := S1x1x7168) ![0, 0, 0] S1x1x7168.size inb_S1x1x7168_S1x1x7168_0_0_0) (fun _ => rfl)).squeeze
      S1x7168 squeezes_S1x1x7168_S1x7168).view (Rect.unit (s := S1x7168) off S1x128.size inb).toLoadRect X = rowBlk (m.view.read (Elt F) X) k := by
  subst h
  funext j
  have e0 : (Rect.unit (s := S1x1x7168) ![0, 0, 0] S1x1x7168.size inb_S1x1x7168_S1x1x7168_0_0_0).emb
      (Shape.reshapeEquiv squeezes_S1x1x7168_S1x7168.numel_eq ((Rect.unit (s := S1x7168) ![0, 128 * k] S1x128.size inb).emb j))
      = Shape.reshapeEquiv squeezes_S1x1x7168_S1x7168.numel_eq ((Rect.unit (s := S1x7168) ![0, 128 * k] S1x128.size inb).emb j) := by
    refine funext fun a => Fin.ext ?_
    fin_cases a <;> (show 0 + 1 * _ = _; rw [Nat.zero_add, Nat.one_mul])
  refine (congrArg (m.view.read (Elt F) X) e0).trans ?_
  have e1 := inb 1
  have b0 : (j 0).val < 1 := (j 0).isLt
  have b1 : (j 1).val < 128 := (j 1).isLt
  change 128 * k + 128 ≤ 7168 at e1
  refine congrArg (m.view.read (Elt F) X) (Shape.reshapeEquiv_eq_of_vals _ _ _ (128 * k + (j 1).val) (128 * k + (j 1).val) ?_ ?_ rfl)
  · rw [Idealize.ShloMosaic.rowMajor_val3 _ 7168 7168 rfl rfl]
    show 0 * 7168 + 0 * 7168 + (128 * k + (j 1).val) % 7168 = _
    rw [Nat.mod_eq_of_lt (by omega)]; omega
  · rw [Idealize.ShloMosaic.rowMajor_val2 _ 7168 rfl]
    show (0 + 1 * (j 0).val) * 7168 + (128 * k + 1 * (j 1).val) = _
    omega

set_option warn.classDefReducibility false in
/-- The first column loop carries the running total. -/
@[sl_loop] def inv_t2 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (arg1 c0_i32 c1_i32_0 : BitVec 32) (k0_t1 : Fin k0_t1_loop.trips) (init : FVec F S32x128 .f32)
    (X2 : BufTy.Contents (Elt F) arg2.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 c0_i32 c1_i32_0 k0_t1 init where
  inv k acc := iprop((arg2.view.loc (c : Thread nD τ) ↦[arg2.view.set]{fullShare} X2) ∗ ⌜acc = totFrom init (arg2.view.read (Elt F) X2) k0_t1.val k⌝)
  step k acc := by
    iintro ⟨H2, %h⟩
    subst h
    unfold k0_t2_body
    have e : k0_pay9 (totFrom init (arg2.view.read (Elt F) X2) k0_t1.val k.val)
        (View.readAt (Elt F) arg2.view (Rect.unit (s := S128x7168) (k0_off2 k0_t1 k) S32x128.size (k0_off2_inb k0_t1 k)).toLoadRect X2)
        = totFrom init (arg2.view.read (Elt F) X2) k0_t1.val (k.val + 1) := by
      rw [readAt_blk arg2 X2 _ k0_t1.val (k.val + 1) (by rw [k0_off2_eq]; rfl)]; rfl
    sl_exec
    sl_step
    sl_close

set_option warn.classDefReducibility false in
/-- The second column loop carries the running sum of squares. -/
@[sl_loop] def inv_t3 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (arg1 c0_i32 c1_i32_0 : BitVec 32) (k0_t1 : Fin k0_t1_loop.trips) (v16 init : FVec F S32x128 .f32)
    (X2 : BufTy.Contents (Elt F) arg2.view.ty) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg1 c0_i32 c1_i32_0 k0_t1 v16 init where
  inv k acc := iprop((arg2.view.loc (c : Thread nD τ) ↦[arg2.view.set]{fullShare} X2) ∗ ⌜acc = sqFrom v16 init (arg2.view.read (Elt F) X2) k0_t1.val k⌝)
  step k acc := by
    iintro ⟨H2, %h⟩
    subst h
    unfold k0_t3_body
    have e : k0_pay12 v16 (sqFrom v16 init (arg2.view.read (Elt F) X2) k0_t1.val k.val)
        (View.readAt (Elt F) arg2.view (Rect.unit (s := S128x7168) (k0_off3 k0_t1 k) S32x128.size (k0_off3_inb k0_t1 k)).toLoadRect X2)
        = sqFrom v16 init (arg2.view.read (Elt F) X2) k0_t1.val (k.val + 1) := by
      rw [readAt_blk arg2 X2 _ k0_t1.val (k.val + 1) (by rw [k0_off3_eq]; rfl)]; rfl
    sl_exec
    sl_step
    sl_close

/-- A group's totals over all column blocks. -/
def tot (B : Vec F S128x7168 .bf16) (g : ℕ) : FVec F S32x128 .f32 := totFrom (k0_pay8 (blk B g 0)) B g 55
/-- A group's sums of squared deviations over all column blocks. -/
def sq (B : Vec F S128x7168 .bf16) (g : ℕ) : FVec F S32x128 .f32 := sqFrom (tot B g) (k0_pay11 (tot B g) (blk B g 0)) B g 55

/-- The statistics of a group: one run over the chunk. -/
theorem part2_run (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (arg1 : BitVec 32) (k0_t1 : Fin k0_t1_loop.trips)
    (X2 : BufTy.Contents (Elt F) arg2.view.ty) :
    (arg2.view.loc (c : Thread nD τ) ↦[arg2.view.set]{fullShare} X2) ⊢ wp (M := 𝕄) frame (wpE (defs₀ (F := F)) Variants.none (c : Thread nD τ) none) Set.univ
      (k0_part2 i arg2 harg2 arg3 harg3 arg4 harg4 arg5 harg5 arg6 harg6 arg7 harg7 arg8 harg8 arg9 harg9 arg10 harg10 arg11 harg11 arg12 harg12 arg13 harg13 arg1 0#32 1#32 k0_t1)
      (fun r => iprop(⌜r = ⟨Scf.iv 0#32 1#32 k0_t1, Scalar.muli (Scf.iv 0#32 1#32 k0_t1) 32#32,
          Scalar.addi (Scalar.muli arg1 128#32) (Scalar.muli (Scf.iv 0#32 1#32 k0_t1) 32#32),
          k0_pay10 (tot (arg2.view.read (Elt F) X2) k0_t1.val), k0_pay13 (sq (arg2.view.read (Elt F) X2) k0_t1.val),
          k0_pay14 (tot (arg2.view.read (Elt F) X2) k0_t1.val) (sq (arg2.view.read (Elt F) X2) k0_t1.val) (blk (arg2.view.read (Elt F) X2) k0_t1.val 0)⟩⌝
        ∗ (arg2.view.loc (c : Thread nD τ) ↦[arg2.view.set]{fullShare} X2))) := by
  rw [k0_part2_eq_skeleton]
  unfold k0_part2_skel
  iintro H2
  sl_exec
  sl_step
  isplitr
  · ipureintro
    have h2 : Scf.trips k0_t2_loop.lb k0_t2_loop.ub k0_t2_loop.st = 55 := trips_t2
    have hb := readAt_blk arg2 X2 (k0_off1_inb k0_t1) k0_t1.val 0 (by rw [k0_off1_eq])
    rw [h2]
    exact congrArg (fun b : Vec F S32x128 .bf16 =>
      (⟨Scf.iv 0#32 1#32 k0_t1, Scalar.muli (Scf.iv 0#32 1#32 k0_t1) 32#32,
        Scalar.addi (Scalar.muli arg1 128#32) (Scalar.muli (Scf.iv 0#32 1#32 k0_t1) 32#32),
        k0_pay10 (totFrom (k0_pay8 b) (arg2.view.read (Elt F) X2) k0_t1.val 55),
        k0_pay13 (sqFrom (totFrom (k0_pay8 b) (arg2.view.read (Elt F) X2) k0_t1.val 55)
          (k0_pay11 (totFrom (k0_pay8 b) (arg2.view.read (Elt F) X2) k0_t1.val 55) b) (arg2.view.read (Elt F) X2) k0_t1.val 55),
        k0_pay14 (totFrom (k0_pay8 b) (arg2.view.read (Elt F) X2) k0_t1.val 55)
          (sqFrom (totFrom (k0_pay8 b) (arg2.view.read (Elt F) X2) k0_t1.val 55)
            (k0_pay11 (totFrom (k0_pay8 b) (arg2.view.read (Elt F) X2) k0_t1.val 55) b) (arg2.view.read (Elt F) X2) k0_t1.val 55) b⟩ :
        Σ' (_ : BitVec 32) (_ : BitVec 32) (_ : BitVec 32) (_ : FVec F S32x1 .f32) (_ : FVec F S32x1 .f32), FVec F S32x128 .f32)) hb
  · iexact H2

set_option warn.classDefReducibility false in
/-- The third column loop carries the running maximum. -/
@[sl_loop] def inv_t4 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (k0_t1 : Fin k0_t1_loop.trips) (v7 : BitVec 32) (v20 : FVec F S32x1 .f32) (v36 : FVec F S32x1 .f32) (v44 : FVec F S32x128 .f32) (init : FVec F S32x128 .f32)
    (X2 : BufTy.Contents (Elt F) arg2.view.ty) (X3 : BufTy.Contents (Elt F) arg3.view.ty) (X4 : BufTy.Contents (Elt F) arg4.view.ty) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 k0_t1 v7 v20 v36 v44 init where
  inv k acc := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ ⌜acc = maxFrom v20 v36 init (arg2.view.read (Elt F) X2) (arg3.view.read (Elt F) X3) (arg4.view.read (Elt F) X4) k0_t1.val k⌝)
  step k acc := by
    iintro ⟨H2, H3, H4, %h⟩
    subst h
    unfold k0_t4_body
    have e : k0_pay16 v20 v36 (maxFrom v20 v36 init (arg2.view.read (Elt F) X2) (arg3.view.read (Elt F) X3) (arg4.view.read (Elt F) X4) k0_t1.val k.val)
        (View.readAt (Elt F) arg2.view (Rect.unit (s := S128x7168) (k0_off4 k0_t1 k) S32x128.size (k0_off4_inb k0_t1 k)).toLoadRect X2)
        (View.readAt (Elt F) ((arg3.slice (Rect.unit (s := S1x1x7168) ![0, 0, 0] S1x1x7168.size inb_S1x1x7168_S1x1x7168_0_0_0) (fun _ => rfl)).squeeze
          S1x7168 squeezes_S1x1x7168_S1x7168).view (Rect.unit (s := S1x7168) (k0_off5 k) S1x128.size (k0_off5_inb k)).toLoadRect X3)
        (View.readAt (Elt F) ((arg4.slice (Rect.unit (s := S1x1x7168) ![0, 0, 0] S1x1x7168.size inb_S1x1x7168_S1x1x7168_0_0_0) (fun _ => rfl)).squeeze
          S1x7168 squeezes_S1x1x7168_S1x7168).view (Rect.unit (s := S1x7168) (k0_off5 k) S1x128.size (k0_off5_inb k)).toLoadRect X4)
        = maxFrom v20 v36 init (arg2.view.read (Elt F) X2) (arg3.view.read (Elt F) X3) (arg4.view.read (Elt F) X4) k0_t1.val (k.val + 1) := by
      rw [readAt_blk arg2 X2 _ k0_t1.val (k.val + 1) (by rw [k0_off4_eq]; rfl), readAt_row arg3 X3 _ (k.val + 1) (by rw [k0_off5_eq]; rfl),
        readAt_row arg4 X4 _ (k.val + 1) (by rw [k0_off5_eq]; rfl)]; rfl
    sl_exec
    sl_step
    sl_close

/-- A group's maximum over all column blocks. -/
def mx (B : Vec F S128x7168 .bf16) (S H : Vec F S1x1x7168 .bf16) (g : ℕ) : FVec F S32x128 .f32 :=
  maxFrom (k0_pay10 (tot B g)) (k0_pay13 (sq B g)) (k0_pay15 (k0_pay14 (tot B g) (sq B g) (blk B g 0)) (rowBlk S 0) (rowBlk H 0)) B S H g 55

/-- The exponent tests of a group: one run over the chunk. -/
theorem part3_run (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (k0_t1 : Fin k0_t1_loop.trips) (v7 : BitVec 32)
    (X2 : BufTy.Contents (Elt F) arg2.view.ty) (X3 : BufTy.Contents (Elt F) arg3.view.ty) (X4 : BufTy.Contents (Elt F) arg4.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)) ⊢ wp (M := 𝕄) frame (wpE (defs₀ (F := F)) Variants.none (c : Thread nD τ) none) Set.univ
      (k0_part3 i arg2 harg2 arg3 harg3 arg4 harg4 arg5 harg5 arg6 harg6 arg7 harg7 arg8 harg8 arg9 harg9 arg10 harg10 arg11 harg11 arg12 harg12 arg13 harg13 k0_t1 v7 (k0_pay10 (tot (arg2.view.read (Elt F) X2) k0_t1.val)) (k0_pay13 (sq (arg2.view.read (Elt F) X2) k0_t1.val))
        (k0_pay14 (tot (arg2.view.read (Elt F) X2) k0_t1.val) (sq (arg2.view.read (Elt F) X2) k0_t1.val) (blk (arg2.view.read (Elt F) X2) k0_t1.val 0)))
      (fun r => iprop(⌜r = ⟨k0_pay17 (mx (arg2.view.read (Elt F) X2) (arg3.view.read (Elt F) X3) (arg4.view.read (Elt F) X4) k0_t1.val), k0_pay18, k0_pay19⟩⌝
        ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4))) := by
  rw [k0_part3_eq_skeleton]
  unfold k0_part3_skel
  iintro ⟨H2, H3, H4⟩
  sl_exec
  sl_step
  isplitr
  · ipureintro
    have h4 : Scf.trips k0_t4_loop.lb k0_t4_loop.ub k0_t4_loop.st = 55 := trips_t4
    rw [h4]
    have h3 := readAt_row arg3 X3 inb_S1x7168_S1x128_0_0 0 rfl
    have h4 := readAt_row arg4 X4 inb_S1x7168_S1x128_0_0 0 rfl
    exact congrArg₂ (fun s h : Vec F S1x128 .bf16 =>
      (⟨k0_pay17 (maxFrom (k0_pay10 (tot (arg2.view.read (Elt F) X2) k0_t1.val)) (k0_pay13 (sq (arg2.view.read (Elt F) X2) k0_t1.val))
          (k0_pay15 (k0_pay14 (tot (arg2.view.read (Elt F) X2) k0_t1.val) (sq (arg2.view.read (Elt F) X2) k0_t1.val)
            (blk (arg2.view.read (Elt F) X2) k0_t1.val 0)) s h)
          (arg2.view.read (Elt F) X2) (arg3.view.read (Elt F) X3) (arg4.view.read (Elt F) X4) k0_t1.val 55), k0_pay18, k0_pay19⟩ :
        Σ' (_ : IVec S32x256 1) (_ : IVec S32x256 32), IVec S32x256 32)) h3 h4
  · sl_close

end Cert.KernelIdeal.Run
-- ==== Proof.KernelIdeal.Codes.lean ====
module

public import proofs.«01_k».proof.Proof.Gen.KernelIdeal.Frame
public import proofs.«01_k».proof.Proof.Gen.KernelIdeal.Loops
public import proofs.«01_k».proof.Proof.KernelIdeal.Columns
public import Idealize.ShloMosaic.Lib.WritesUnit

@[expose] public section

set_option maxRecDepth 8192
set_option maxHeartbeats 400000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The exponent tests of a group's rows. -/
def tests (B : Vec F S128x7168 .bf16) (S H : Vec F S1x1x7168 .bf16) (g : ℕ) : IVec S32x256 1 := k0_pay17 (mx B S H g)

/-- The codes of a group's column block. -/
def codeBlk (B : Vec F S128x7168 .bf16) (S H : Vec F S1x1x7168 .bf16) (g k : ℕ) : Vec F S32x128 .fp8e4m3 :=
  k0_pay6 (k0_pay10 (tot B g)) (k0_pay13 (sq B g)) (k0_pay21 (tests B S H g) k0_pay18 k0_pay19) (blk B g k) (rowBlk S k) (rowBlk H k)

/-- The codes of a chunk. -/
def codeAt (B : Vec F S128x7168 .bf16) (S H : Vec F S1x1x7168 .bf16) (r l : ℕ) : Elt F .fp8e4m3 :=
  codeBlk B S H (r / 32) (l / 128) (ix2 ⟨r % 32, Nat.mod_lt _ (by decide)⟩ ⟨l % 128, Nat.mod_lt _ (by decide)⟩)

/-- The scales of a group's rows, each across 128 lanes. -/
def scaleBlk (B : Vec F S128x7168 .bf16) (S H : Vec F S1x1x7168 .bf16) (g : ℕ) : Vec F S32x128 .f32 :=
  k0_pay22 (tests B S H g) k0_pay18 k0_pay19

/-- The scales of a chunk, each across 128 lanes. -/
def scaleAt (B : Vec F S128x7168 .bf16) (S H : Vec F S1x1x7168 .bf16) (r l : ℕ) : Elt F .f32 :=
  scaleBlk B S H (r / 32) (ix2 ⟨r % 32, Nat.mod_lt _ (by decide)⟩ ⟨l % 128, Nat.mod_lt _ (by decide)⟩)

/-- The scales of the first groups' rows, one lane per row. -/
def diagSum (B : Vec F S128x7168 .bf16) (S H : Vec F S1x1x7168 .bf16) : ℕ → Vec F S1x1x128 .f32
  | 0 => k0_pay2 (k0_pay24 (Scalar.muli (Scf.iv 0#32 1#32 0) 32#32) (tests B S H 0) k0_pay18 k0_pay19)
  | g + 1 => k0_pay3 (k0_pay24 (Scalar.muli (Scf.iv 0#32 1#32 (g + 1)) 32#32) (tests B S H (g + 1)) k0_pay18 k0_pay19) (diagSum B S H g)

/-- A chunk's code at a row of group `g` and a column of block `k` is the block's. -/
theorem codeAt_of (B : Vec F S128x7168 .bf16) (S H : Vec F S1x1x7168 .bf16) {r l g k : ℕ} (a : Fin 32) (b : Fin 128)
    (hr : r = 32 * g + a.val) (hl : l = 128 * k + b.val) : codeAt B S H r l = codeBlk B S H g k (ix2 a b) := by
  have ha := a.isLt
  have hb := b.isLt
  have h1 : r / 32 = g := by omega
  have h2 : l / 128 = k := by omega
  have h3 : (⟨r % 32, Nat.mod_lt _ (by decide)⟩ : Fin 32) = a := Fin.ext (by show r % 32 = a.val; omega)
  have h4 : (⟨l % 128, Nat.mod_lt _ (by decide)⟩ : Fin 128) = b := Fin.ext (by show l % 128 = b.val; omega)
  unfold codeAt
  rw [h1, h2, h3, h4]

/-- A chunk's scale at a row of group `g` is the group's. -/
theorem scaleAt_of (B : Vec F S128x7168 .bf16) (S H : Vec F S1x1x7168 .bf16) {r l g : ℕ} (a : Fin 32) (b : Fin 128)
    (hr : r = 32 * g + a.val) (hl : l = b.val) : scaleAt B S H r l = scaleBlk B S H g (ix2 a b) := by
  have ha := a.isLt
  have hb := b.isLt
  have h1 : r / 32 = g := by omega
  have h3 : (⟨r % 32, Nat.mod_lt _ (by decide)⟩ : Fin 32) = a := Fin.ext (by show r % 32 = a.val; omega)
  have h4 : (⟨l % 128, Nat.mod_lt _ (by decide)⟩ : Fin 128) = b := Fin.ext (by show l % 128 = b.val; omega)
  unfold scaleAt
  rw [h1, h3, h4]

/-- The slab's store holds the codes block with a leading axis of one. -/
theorem pay7_apply (v20 v36 v101 : FVec F S32x1 .f32) (b : Vec F S32x128 .bf16) (s h : Vec F S1x128 .bf16) (x0 : Fin 1) (x1 : Fin 32) (x2 : Fin 128) :
    k0_pay7 v20 v36 v101 b s h (ix3 x0 x1 x2) = k0_pay6 v20 v36 v101 b s h (ix2 x1 x2) := by
  unfold k0_pay7
  generalize k0_pay6 v20 v36 v101 b s h = p
  pointwise []

/-- The scale scratch's store holds the scales with a leading axis of one. -/
theorem pay23_apply (v80 : IVec S32x256 1) (v81 v82 : IVec S32x256 32) (x0 : Fin 1) (x1 : Fin 32) (x2 : Fin 128) :
    k0_pay23 (F := F) v80 v81 v82 (ix3 x0 x1 x2) = k0_pay22 (F := F) v80 v81 v82 (ix2 x1 x2) := by
  unfold k0_pay23
  generalize k0_pay22 (F := F) v80 v81 v82 = p
  pointwise []

/-- Storing a column block into the codes block extends the columns done. -/
theorem store10 (v : View sig .tc .vmem S128x7168 .fp8e4m3) (f f0 : v.ty.Contents (Elt F)) (C : ℕ → ℕ → Elt F .fp8e4m3) (g k : ℕ)
    {off : Fin 2 → ℕ} (inb : ∀ a, off a + S32x128.size a ≤ S128x7168.size a) (w : Vec F S32x128 .fp8e4m3) (hoff : off = ![32 * g, 128 * k])
    (hw : ∀ (a : Fin 32) (b : Fin 128), w (ix2 a b) = C (32 * g + a.val) (128 * k + b.val))
    (h : ∀ y : S128x7168.Idx, v.read (Elt F) f y = if 32 * g ≤ (y 0).val ∧ (y 0).val < 32 * g + 32 ∧ (y 1).val < 128 * k then
        C (y 0).val (y 1).val else v.read (Elt F) f0 y) (y : S128x7168.Idx) :
    v.read (Elt F) (v.writes (Elt F) f [⟨Rect.unit (s := S128x7168) off S32x128.size inb, w⟩]) y
      = if 32 * g ≤ (y 0).val ∧ (y 0).val < 32 * g + 32 ∧ (y 1).val < 128 * (k + 1) then
        C (y 0).val (y 1).val else v.read (Elt F) f0 y := by
  by_cases hm : 32 * g ≤ (y 0).val ∧ (y 0).val < 32 * g + 32 ∧ 128 * k ≤ (y 1).val ∧ (y 1).val < 128 * (k + 1)
  · rw [View.read_writes_cons_unit_of_mem v f inb w [] y
      (ix2 (⟨(y 0).val - 32 * g, by omega⟩ : Fin 32) (⟨(y 1).val - 128 * k, by omega⟩ : Fin 128)) hoff (fun a => by
        fin_cases a
        · show (y 0).val = 32 * g + ((y 0).val - 32 * g); omega
        · show (y 1).val = 128 * k + ((y 1).val - 128 * k); omega), hw, if_pos ⟨hm.1, hm.2.1, hm.2.2.2⟩]
    show C (32 * g + ((y 0).val - 32 * g)) (128 * k + ((y 1).val - 128 * k)) = _
    rw [Nat.add_sub_cancel' hm.1, Nat.add_sub_cancel' hm.2.2.1]
  · have hn : v.read (Elt F) (v.writes (Elt F) f [⟨Rect.unit (s := S128x7168) off S32x128.size inb, w⟩]) y = v.read (Elt F) f y := by
      by_cases h0 : 32 * g ≤ (y 0).val ∧ (y 0).val < 32 * g + 32
      · exact View.read_writes_cons_unit_of_not_mem v f inb w [] y hoff 1 (by
          show (y 1).val < 128 * k ∨ 128 * k + 128 ≤ (y 1).val; omega)
      · exact View.read_writes_cons_unit_of_not_mem v f inb w [] y hoff 0 (by
          show (y 0).val < 32 * g ∨ 32 * g + 32 ≤ (y 0).val; omega)
    rw [hn, h y]
    by_cases h2 : 32 * g ≤ (y 0).val ∧ (y 0).val < 32 * g + 32 ∧ (y 1).val < 128 * k
    · rw [if_pos h2, if_pos ⟨h2.1, h2.2.1, by omega⟩]
    · rw [if_neg h2, if_neg (by omega)]

/-- Storing a column block into the slot's slab extends the columns done. -/
theorem store12 (v : View sig .tc .vmem S2x1024x7168 .fp8e4m3) (f f0 : v.ty.Contents (Elt F)) (C : ℕ → ℕ → Elt F .fp8e4m3) (s r g k : ℕ)
    {off : Fin 3 → ℕ} (inb : ∀ a, off a + S1x32x128.size a ≤ S2x1024x7168.size a) (w : Vec F S1x32x128 .fp8e4m3) (hoff : off = ![s, r + 32 * g, 128 * k])
    (hw : ∀ (z : Fin 1) (a : Fin 32) (b : Fin 128), w (ix3 z a b) = C (32 * g + a.val) (128 * k + b.val))
    (h : ∀ y : S2x1024x7168.Idx, v.read (Elt F) f y = if (y 0).val = s ∧ r + 32 * g ≤ (y 1).val ∧ (y 1).val < r + 32 * g + 32 ∧ (y 2).val < 128 * k then
        C ((y 1).val - r) (y 2).val else v.read (Elt F) f0 y) (y : S2x1024x7168.Idx) :
    v.read (Elt F) (v.writes (Elt F) f [⟨Rect.unit (s := S2x1024x7168) off S1x32x128.size inb, w⟩]) y
      = if (y 0).val = s ∧ r + 32 * g ≤ (y 1).val ∧ (y 1).val < r + 32 * g + 32 ∧ (y 2).val < 128 * (k + 1) then
        C ((y 1).val - r) (y 2).val else v.read (Elt F) f0 y := by
  by_cases hm : (y 0).val = s ∧ r + 32 * g ≤ (y 1).val ∧ (y 1).val < r + 32 * g + 32 ∧ 128 * k ≤ (y 2).val ∧ (y 2).val < 128 * (k + 1)
  · rw [View.read_writes_cons_unit_of_mem v f inb w [] y
      (ix3 (0 : Fin 1) (⟨(y 1).val - (r + 32 * g), by omega⟩ : Fin 32) (⟨(y 2).val - 128 * k, by omega⟩ : Fin 128)) hoff (fun a => by
        fin_cases a
        · show (y 0).val = s + 0; omega
        · show (y 1).val = r + 32 * g + ((y 1).val - (r + 32 * g)); omega
        · show (y 2).val = 128 * k + ((y 2).val - 128 * k); omega), hw, if_pos ⟨hm.1, hm.2.1, hm.2.2.1, hm.2.2.2.2⟩]
    show C (32 * g + ((y 1).val - (r + 32 * g))) (128 * k + ((y 2).val - 128 * k)) = _
    rw [Nat.add_sub_cancel' hm.2.2.2.1, show 32 * g + ((y 1).val - (r + 32 * g)) = (y 1).val - r by omega]
  · have hn : v.read (Elt F) (v.writes (Elt F) f [⟨Rect.unit (s := S2x1024x7168) off S1x32x128.size inb, w⟩]) y = v.read (Elt F) f y := by
      by_cases h0 : (y 0).val = s
      · by_cases h1 : r + 32 * g ≤ (y 1).val ∧ (y 1).val < r + 32 * g + 32
        · exact View.read_writes_cons_unit_of_not_mem v f inb w [] y hoff 2 (by
            show (y 2).val < 128 * k ∨ 128 * k + 128 ≤ (y 2).val; omega)
        · exact View.read_writes_cons_unit_of_not_mem v f inb w [] y hoff 1 (by
            show (y 1).val < r + 32 * g ∨ r + 32 * g + 32 ≤ (y 1).val; omega)
      · exact View.read_writes_cons_unit_of_not_mem v f inb w [] y hoff 0 (by
          show (y 0).val < s ∨ s + 1 ≤ (y 0).val; omega)
    rw [hn, h y]
    by_cases h2 : (y 0).val = s ∧ r + 32 * g ≤ (y 1).val ∧ (y 1).val < r + 32 * g + 32 ∧ (y 2).val < 128 * k
    · rw [if_pos h2, if_pos ⟨h2.1, h2.2.1, h2.2.2.1, by omega⟩]
    · rw [if_neg h2, if_neg (by omega)]

/-- The column loop's invariant: the group's rows of the codes block and of the slot's slab hold the codes of the
    columns done, everything else is as it was. -/
abbrev I5 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (k0_t1 : Fin k0_t1_loop.trips)
    (X2 : BufTy.Contents (Elt F) arg2.view.ty) (X3 : BufTy.Contents (Elt F) arg3.view.ty) (X4 : BufTy.Contents (Elt F) arg4.view.ty) (f10 : BufTy.Contents (Elt F) arg10.view.ty) (f12 : BufTy.Contents (Elt F) arg12.view.ty) (k : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
    ∗ (∃ f, (arg10.view.loc (c : Thread nD τ) ↦[arg10.view.set]{fullShare} f) ∗ ⌜∀ y : S128x7168.Idx, arg10.view.read (Elt F) f y =
        if 32 * k0_t1.val ≤ (y 0).val ∧ (y 0).val < 32 * k0_t1.val + 32 ∧ (y 1).val < 128 * k then
          codeAt (arg2.view.read (Elt F) X2) (arg3.view.read (Elt F) X3) (arg4.view.read (Elt F) X4) (y 0).val (y 1).val
        else arg10.view.read (Elt F) f10 y⌝)
    ∗ (∃ f, (arg12.view.loc (c : Thread nD τ) ↦[arg12.view.set]{fullShare} f) ∗ ⌜∀ y : S2x1024x7168.Idx, arg12.view.read (Elt F) f y =
        if (y 0).val = (i 0).val % 2 ∧ 128 * (i 1).val + 32 * k0_t1.val ≤ (y 1).val ∧ (y 1).val < 128 * (i 1).val + 32 * k0_t1.val + 32 ∧ (y 2).val < 128 * k then
          codeAt (arg2.view.read (Elt F) X2) (arg3.view.read (Elt F) X3) (arg4.view.read (Elt F) X4) ((y 1).val - 128 * (i 1).val) (y 2).val
        else arg12.view.read (Elt F) f12 y⌝))

/-- One trip of the column loop. -/
theorem step5 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (v0 : BitVec 32) (k0_t1 : Fin k0_t1_loop.trips) (v7 : BitVec 32) (v10 : BitVec 32)
    (X2 : BufTy.Contents (Elt F) arg2.view.ty) (X3 : BufTy.Contents (Elt F) arg3.view.ty) (X4 : BufTy.Contents (Elt F) arg4.view.ty) (f10 : BufTy.Contents (Elt F) arg10.view.ty) (f12 : BufTy.Contents (Elt F) arg12.view.ty) (k : Fin k0_t5_loop.trips) (acc : Unit) :
    I5 c i arg2 harg2 arg3 harg3 arg4 harg4 arg5 harg5 arg6 harg6 arg7 harg7 arg8 harg8 arg9 harg9 arg10 harg10 arg11 harg11 arg12 harg12 arg13 harg13 k0_t1 X2 X3 X4 f10 f12 k.val ⊢ wp (M := 𝕄) frame (wpE (defs₀ (F := F)) Variants.none (c : Thread nD τ) none) Set.univ
      (k0_t5_body i arg2 harg2 arg3 harg3 arg4 harg4 arg5 harg5 arg6 harg6 arg7 harg7 arg8 harg8 arg9 harg9 arg10 harg10 arg11 harg11 arg12 harg12 arg13 harg13 v0 k0_t1 v7 v10
      (k0_pay10 (tot (arg2.view.read (Elt F) X2) k0_t1.val)) (k0_pay13 (sq (arg2.view.read (Elt F) X2) k0_t1.val))
      (tests (arg2.view.read (Elt F) X2) (arg3.view.read (Elt F) X3) (arg4.view.read (Elt F) X4) k0_t1.val) k0_pay18 k0_pay19 k acc)
      (fun _ => I5 c i arg2 harg2 arg3 harg3 arg4 harg4 arg5 harg5 arg6 harg6 arg7 harg7 arg8 harg8 arg9 harg9 arg10 harg10 arg11 harg11 arg12 harg12 arg13 harg13 k0_t1 X2 X3 X4 f10 f12 (k.val + 1)) := by
  iintro ⟨H2, H3, H4, ⟨%g10, H10, %h10⟩, ⟨%g12, H12, %h12⟩⟩
  unfold k0_t5_body
  sl_exec_parts
  sl_step
  isplitl [H2]; · iexact H2
  isplitl [H3]; · iexact H3
  isplitl [H4]; · iexact H4
  have hb := readAt_blk arg2 X2 (k0_off6_inb k0_t1 k) k0_t1.val k.val (by rw [k0_off6_eq])
  have hs := readAt_row arg3 X3 (k0_off7_inb k) k.val (by rw [k0_off7_eq])
  have hh := readAt_row arg4 X4 (k0_off7_inb k) k.val (by rw [k0_off7_eq])
  isplitl [H10]
  · iexists _
    isplitl [H10]; · iexact H10
    ipureintro
    exact store10 _ g10 f10 _ k0_t1.val k.val _ _ (k0_off6_eq k0_t1 k) (fun a b => by
      rw [codeAt_of _ _ _ a b rfl rfl]
      unfold codeBlk
      rw [← hb, ← hs, ← hh]
      rfl) h10
  · iexists _
    isplitl [H12]; · iexact H12
    ipureintro
    exact store12 _ g12 f12 _ ((i 0).val % 2) (128 * (i 1).val) k0_t1.val k.val _ _ (k0_off10_eq i k0_t1 k) (fun z a b => by
      rw [codeAt_of _ _ _ a b rfl rfl]
      unfold codeBlk
      rw [← hb, ← hs, ← hh, ← pay7_apply _ _ _ _ _ _ z]
      rfl) h12

end Cert.KernelIdeal.Run
-- ==== Proof.KernelIdeal.Stores.lean ====
module

public import proofs.«01_k».proof.Proof.Gen.KernelIdeal.Frame
public import proofs.«01_k».proof.Proof.Gen.KernelIdeal.Loops
public import proofs.«01_k».proof.Proof.KernelIdeal.Codes
public import Idealize.ShloMosaic.Lib.WritesUnit

@[expose] public section

set_option maxRecDepth 8192
set_option maxHeartbeats 400000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Storing a group's scales into the slot's slab extends the rows done. -/
theorem store13 (v : View sig .tc .vmem S2x1024x128 .f32) (f f0 : v.ty.Contents (Elt F)) (C : ℕ → ℕ → Elt F .f32) (s r g : ℕ)
    {off : Fin 3 → ℕ} (inb : ∀ a, off a + S1x32x128.size a ≤ S2x1024x128.size a) (w : Vec F S1x32x128 .f32) (hoff : off = ![s, r + 32 * g, 0])
    (hw : ∀ (z : Fin 1) (a : Fin 32) (b : Fin 128), w (ix3 z a b) = C (32 * g + a.val) b.val)
    (h : ∀ y : S2x1024x128.Idx, v.read (Elt F) f y = if (y 0).val = s ∧ r ≤ (y 1).val ∧ (y 1).val < r + 32 * g then
        C ((y 1).val - r) (y 2).val else v.read (Elt F) f0 y) (y : S2x1024x128.Idx) :
    v.read (Elt F) (v.writes (Elt F) f [⟨Rect.unit (s := S2x1024x128) off S1x32x128.size inb, w⟩]) y
      = if (y 0).val = s ∧ r ≤ (y 1).val ∧ (y 1).val < r + 32 * (g + 1) then
        C ((y 1).val - r) (y 2).val else v.read (Elt F) f0 y := by
  have hy2 : (y 2).val < 128 := (y 2).isLt
  by_cases hm : (y 0).val = s ∧ r + 32 * g ≤ (y 1).val ∧ (y 1).val < r + 32 * g + 32
  · rw [View.read_writes_cons_unit_of_mem v f inb w [] y
      (ix3 (0 : Fin 1) (⟨(y 1).val - (r + 32 * g), by omega⟩ : Fin 32) (⟨(y 2).val, hy2⟩ : Fin 128)) hoff (fun a => by
        fin_cases a
        · show (y 0).val = s + 0; omega
        · show (y 1).val = r + 32 * g + ((y 1).val - (r + 32 * g)); omega
        · show (y 2).val = 0 + (y 2).val; omega), hw, if_pos ⟨hm.1, by omega, by omega⟩]
    show C (32 * g + ((y 1).val - (r + 32 * g))) (y 2).val = _
    rw [show 32 * g + ((y 1).val - (r + 32 * g)) = (y 1).val - r by omega]
  · have hn : v.read (Elt F) (v.writes (Elt F) f [⟨Rect.unit (s := S2x1024x128) off S1x32x128.size inb, w⟩]) y = v.read (Elt F) f y := by
      by_cases h0 : (y 0).val = s
      · exact View.read_writes_cons_unit_of_not_mem v f inb w [] y hoff 1 (by
            show (y 1).val < r + 32 * g ∨ r + 32 * g + 32 ≤ (y 1).val; omega)
      · exact View.read_writes_cons_unit_of_not_mem v f inb w [] y hoff 0 (by
          show (y 0).val < s ∨ s + 1 ≤ (y 0).val; omega)
    rw [hn, h y]
    by_cases h2 : (y 0).val = s ∧ r ≤ (y 1).val ∧ (y 1).val < r + 32 * g
    · rw [if_pos h2, if_pos ⟨h2.1, h2.2.1, by omega⟩]
    · rw [if_neg h2, if_neg (by omega)]

/-- The codes of a group, stored: one run from the rows done before. -/
theorem part4_run (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (v0 : BitVec 32) (k0_t1 : Fin k0_t1_loop.trips) (v7 v10 : BitVec 32)
    (X2 : BufTy.Contents (Elt F) arg2.view.ty) (X3 : BufTy.Contents (Elt F) arg3.view.ty) (X4 : BufTy.Contents (Elt F) arg4.view.ty) (f12 : BufTy.Contents (Elt F) arg12.view.ty) (f13 : BufTy.Contents (Elt F) arg13.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (∃ f, (arg10.view.loc (c : Thread nD τ) ↦[arg10.view.set]{fullShare} f) ∗ ⌜∀ y : S128x7168.Idx, (y 0).val < 32 * k0_t1.val →
          arg10.view.read (Elt F) f y = codeAt (arg2.view.read (Elt F) X2) (arg3.view.read (Elt F) X3) (arg4.view.read (Elt F) X4) (y 0).val (y 1).val⌝)
      ∗ (∃ f, (arg12.view.loc (c : Thread nD τ) ↦[arg12.view.set]{fullShare} f) ∗ ⌜∀ y : S2x1024x7168.Idx, arg12.view.read (Elt F) f y =
          if (y 0).val = (i 0).val % 2 ∧ 128 * (i 1).val ≤ (y 1).val ∧ (y 1).val < 128 * (i 1).val + 32 * k0_t1.val then
            codeAt (arg2.view.read (Elt F) X2) (arg3.view.read (Elt F) X3) (arg4.view.read (Elt F) X4) ((y 1).val - 128 * (i 1).val) (y 2).val else arg12.view.read (Elt F) f12 y⌝)
      ∗ (∃ f, (arg13.view.loc (c : Thread nD τ) ↦[arg13.view.set]{fullShare} f) ∗ ⌜∀ y : S2x1024x128.Idx, arg13.view.read (Elt F) f y =
          if (y 0).val = (i 0).val % 2 ∧ 128 * (i 1).val ≤ (y 1).val ∧ (y 1).val < 128 * (i 1).val + 32 * k0_t1.val then
            scaleAt (arg2.view.read (Elt F) X2) (arg3.view.read (Elt F) X3) (arg4.view.read (Elt F) X4) ((y 1).val - 128 * (i 1).val) (y 2).val else arg13.view.read (Elt F) f13 y⌝))
    ⊢ wp (M := 𝕄) frame (wpE (defs₀ (F := F)) Variants.none (c : Thread nD τ) none) Set.univ
      (k0_part4 i arg2 harg2 arg3 harg3 arg4 harg4 arg5 harg5 arg6 harg6 arg7 harg7 arg8 harg8 arg9 harg9 arg10 harg10 arg11 harg11 arg12 harg12 arg13 harg13 v0 k0_t1 v7 v10 (k0_pay10 (tot (arg2.view.read (Elt F) X2) k0_t1.val)) (k0_pay13 (sq (arg2.view.read (Elt F) X2) k0_t1.val))
        (tests (arg2.view.read (Elt F) X2) (arg3.view.read (Elt F) X3) (arg4.view.read (Elt F) X4) k0_t1.val) k0_pay18 k0_pay19)
      (fun r => iprop(⌜r = k0_pay24 v7 (tests (arg2.view.read (Elt F) X2) (arg3.view.read (Elt F) X3) (arg4.view.read (Elt F) X4) k0_t1.val) k0_pay18 k0_pay19⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (∃ f, (arg10.view.loc (c : Thread nD τ) ↦[arg10.view.set]{fullShare} f) ∗ ⌜∀ y : S128x7168.Idx, (y 0).val < 32 * (k0_t1.val + 1) →
          arg10.view.read (Elt F) f y = codeAt (arg2.view.read (Elt F) X2) (arg3.view.read (Elt F) X3) (arg4.view.read (Elt F) X4) (y 0).val (y 1).val⌝)
      ∗ (∃ f, (arg12.view.loc (c : Thread nD τ) ↦[arg12.view.set]{fullShare} f) ∗ ⌜∀ y : S2x1024x7168.Idx, arg12.view.read (Elt F) f y =
          if (y 0).val = (i 0).val % 2 ∧ 128 * (i 1).val ≤ (y 1).val ∧ (y 1).val < 128 * (i 1).val + 32 * (k0_t1.val + 1) then
            codeAt (arg2.view.read (Elt F) X2) (arg3.view.read (Elt F) X3) (arg4.view.read (Elt F) X4) ((y 1).val - 128 * (i 1).val) (y 2).val else arg12.view.read (Elt F) f12 y⌝)
      ∗ (∃ f, (arg13.view.loc (c : Thread nD τ) ↦[arg13.view.set]{fullShare} f) ∗ ⌜∀ y : S2x1024x128.Idx, arg13.view.read (Elt F) f y =
          if (y 0).val = (i 0).val % 2 ∧ 128 * (i 1).val ≤ (y 1).val ∧ (y 1).val < 128 * (i 1).val + 32 * (k0_t1.val + 1) then
            scaleAt (arg2.view.read (Elt F) X2) (arg3.view.read (Elt F) X3) (arg4.view.read (Elt F) X4) ((y 1).val - 128 * (i 1).val) (y 2).val else arg13.view.read (Elt F) f13 y⌝))) := by
  rw [k0_part4_eq_skeleton]
  unfold k0_part4_skel
  iintro ⟨H2, H3, H4, ⟨%g10, H10, %h10⟩, ⟨%g12, H12, %h12⟩, ⟨%g13, H13, %h13⟩⟩
  have e10 : ∀ y : S128x7168.Idx, arg10.view.read (Elt F) g10 y =
        if 32 * k0_t1.val ≤ (y 0).val ∧ (y 0).val < 32 * k0_t1.val + 32 ∧ (y 1).val < 128 * 0 then
          codeAt (arg2.view.read (Elt F) X2) (arg3.view.read (Elt F) X3) (arg4.view.read (Elt F) X4) (y 0).val (y 1).val
        else arg10.view.read (Elt F) g10 y := fun y => by rw [if_neg (by omega)]
  have e12 : ∀ y : S2x1024x7168.Idx, arg12.view.read (Elt F) g12 y =
        if (y 0).val = (i 0).val % 2 ∧ 128 * (i 1).val + 32 * k0_t1.val ≤ (y 1).val ∧ (y 1).val < 128 * (i 1).val + 32 * k0_t1.val + 32 ∧ (y 2).val < 128 * 0 then
          codeAt (arg2.view.read (Elt F) X2) (arg3.view.read (Elt F) X3) (arg4.view.read (Elt F) X4) ((y 1).val - 128 * (i 1).val) (y 2).val
        else arg12.view.read (Elt F) g12 y := fun y => by rw [if_neg (by omega)]
  iapply (Scf.wp_for_bind frame (wpE (defs₀ (F := F)) Variants.none (c : Thread nD τ) none) Set.univ _ _ _ k0_t5_ok _ _
    (fun k (_ : Unit) => I5 c i arg2 harg2 arg3 harg3 arg4 harg4 arg5 harg5 arg6 harg6 arg7 harg7 arg8 harg8 arg9 harg9 arg10 harg10 arg11 harg11 arg12 harg12 arg13 harg13 k0_t1 X2 X3 X4 g10 g12 k)
    (fun k acc => step5 c i arg2 harg2 arg3 harg3 arg4 harg4 arg5 harg5 arg6 harg6 arg7 harg7 arg8 harg8 arg9 harg9 arg10 harg10 arg11 harg11 arg12 harg12 arg13 harg13 v0 k0_t1 v7 v10 X2 X3 X4 g10 g12 k acc)) $$ [H2 H3 H4 H10 H12]
  · isplitl [H2]; · iexact H2
    isplitl [H3]; · iexact H3
    isplitl [H4]; · iexact H4
    isplitl [H10]
    · iexists g10
      isplitl [H10]; · iexact H10
      ipureintro; exact e10
    · iexists g12
      isplitl [H12]; · iexact H12
      ipureintro; exact e12
  iintro %acc ⟨H2, H3, H4, ⟨%k10, H10, %h10'⟩, ⟨%k12, H12, %h12'⟩⟩
  sl_exec
  sl_step
  isplitr; · ipureintro; rfl
  isplitl [H2]; · iexact H2
  isplitl [H3]; · iexact H3
  isplitl [H4]; · iexact H4
  have h5 : Scf.trips k0_t5_loop.lb k0_t5_loop.ub k0_t5_loop.st = 56 := trips_t5
  rw [h5] at h10' h12'
  isplitl [H10]
  · iexists _
    isplitl [H10]; · iexact H10
    ipureintro
    intro y hy
    have hy1 : (y 1).val < 7168 := (y 1).isLt
    rw [h10' y]
    by_cases hc : 32 * k0_t1.val ≤ (y 0).val
    · rw [if_pos ⟨hc, by omega, by omega⟩]
    · rw [if_neg (by omega), h10 y (by omega)]
  isplitl [H12]
  · iexists _
    isplitl [H12]; · iexact H12
    ipureintro
    intro y
    have hy2 : (y 2).val < 7168 := (y 2).isLt
    rw [h12' y]
    by_cases hc : (y 0).val = (i 0).val % 2 ∧ 128 * (i 1).val + 32 * k0_t1.val ≤ (y 1).val ∧ (y 1).val < 128 * (i 1).val + 32 * k0_t1.val + 32
    · rw [if_pos ⟨hc.1, hc.2.1, hc.2.2, by omega⟩, if_pos ⟨hc.1, by omega, by omega⟩]
    · rw [if_neg (by omega), h12 y]
      by_cases hd : (y 0).val = (i 0).val % 2 ∧ 128 * (i 1).val ≤ (y 1).val ∧ (y 1).val < 128 * (i 1).val + 32 * k0_t1.val
      · rw [if_pos hd, if_pos ⟨hd.1, hd.2.1, by omega⟩]
      · rw [if_neg hd, if_neg (by omega)]
  · iexists _
    isplitl [H13]; · iexact H13
    ipureintro
    exact store13 _ g13 f13 _ ((i 0).val % 2) (128 * (i 1).val) k0_t1.val _ _ (k0_off11_eq i k0_t1) (fun z a b => by
      rw [scaleAt_of _ _ _ a b rfl rfl, pay23_apply]
      rfl) h13

end Cert.KernelIdeal.Run
-- ==== Proof.KernelIdeal.Group.lean ====
module

public import proofs.«01_k».proof.Proof.Gen.KernelIdeal.Frame
public import proofs.«01_k».proof.Proof.Gen.KernelIdeal.Loops
public import proofs.«01_k».proof.Proof.KernelIdeal.Stores
public import Idealize.ShloMosaic.Lib.WritesUnit
public import Idealize.ShloMosaic.Lib.VecWindow

@[expose] public section

set_option maxRecDepth 8192
set_option maxHeartbeats 400000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The row-group loop's invariant: the rows of the groups done hold their codes and scales, everything else is as it
    was, and the scale row is the sum over the groups done. -/
abbrev I1 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole)
    (X2 : BufTy.Contents (Elt F) arg2.view.ty) (X3 : BufTy.Contents (Elt F) arg3.view.ty) (X4 : BufTy.Contents (Elt F) arg4.view.ty) (f12 : BufTy.Contents (Elt F) arg12.view.ty) (f13 : BufTy.Contents (Elt F) arg13.view.ty) (g : ℕ) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
      ∗ (∃ f, (arg10.view.loc (c : Thread nD τ) ↦[arg10.view.set]{fullShare} f) ∗ ⌜∀ y : S128x7168.Idx, (y 0).val < 32 * g →
          arg10.view.read (Elt F) f y = codeAt (arg2.view.read (Elt F) X2) (arg3.view.read (Elt F) X3) (arg4.view.read (Elt F) X4) (y 0).val (y 1).val⌝)
      ∗ (∃ f, (arg11.view.loc (c : Thread nD τ) ↦[arg11.view.set]{fullShare} f) ∗ ⌜∀ n, g = n + 1 → arg11.view.read (Elt F) f = diagSum (arg2.view.read (Elt F) X2) (arg3.view.read (Elt F) X3) (arg4.view.read (Elt F) X4) n⌝)
      ∗ (∃ f, (arg12.view.loc (c : Thread nD τ) ↦[arg12.view.set]{fullShare} f) ∗ ⌜∀ y : S2x1024x7168.Idx, arg12.view.read (Elt F) f y =
          if (y 0).val = (i 0).val % 2 ∧ 128 * (i 1).val ≤ (y 1).val ∧ (y 1).val < 128 * (i 1).val + 32 * g then
            codeAt (arg2.view.read (Elt F) X2) (arg3.view.read (Elt F) X3) (arg4.view.read (Elt F) X4) ((y 1).val - 128 * (i 1).val) (y 2).val else arg12.view.read (Elt F) f12 y⌝)
      ∗ (∃ f, (arg13.view.loc (c : Thread nD τ) ↦[arg13.view.set]{fullShare} f) ∗ ⌜∀ y : S2x1024x128.Idx, arg13.view.read (Elt F) f y =
          if (y 0).val = (i 0).val % 2 ∧ 128 * (i 1).val ≤ (y 1).val ∧ (y 1).val < 128 * (i 1).val + 32 * g then
            scaleAt (arg2.view.read (Elt F) X2) (arg3.view.read (Elt F) X3) (arg4.view.read (Elt F) X4) ((y 1).val - 128 * (i 1).val) (y 2).val else arg13.view.read (Elt F) f13 y⌝))

theorem cond1_iff : ∀ k : Fin k0_t1_loop.trips, k0_cond1 k = 1#1 ↔ k.val = 0 := by decide +kernel
theorem cond2_iff : ∀ k : Fin k0_t1_loop.trips, k0_cond2 k = 1#1 ↔ k.val ≠ 0 := by decide +kernel

/-- One trip of the row-group loop. -/
theorem step1 (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole) (arg1 v0 : BitVec 32)
    (X2 : BufTy.Contents (Elt F) arg2.view.ty) (X3 : BufTy.Contents (Elt F) arg3.view.ty) (X4 : BufTy.Contents (Elt F) arg4.view.ty) (f12 : BufTy.Contents (Elt F) arg12.view.ty) (f13 : BufTy.Contents (Elt F) arg13.view.ty) (k : Fin k0_t1_loop.trips) (acc : Unit) :
    I1 c i arg2 harg2 arg3 harg3 arg4 harg4 arg5 harg5 arg6 harg6 arg7 harg7 arg8 harg8 arg9 harg9 arg10 harg10 arg11 harg11 arg12 harg12 arg13 harg13 X2 X3 X4 f12 f13 k.val ⊢ wp (M := 𝕄) frame (wpE (defs₀ (F := F)) Variants.none (c : Thread nD τ) none) Set.univ
      (k0_t1_body i arg2 harg2 arg3 harg3 arg4 harg4 arg5 harg5 arg6 harg6 arg7 harg7 arg8 harg8 arg9 harg9 arg10 harg10 arg11 harg11 arg12 harg12 arg13 harg13 arg1 v0 k acc)
      (fun _ => I1 c i arg2 harg2 arg3 harg3 arg4 harg4 arg5 harg5 arg6 harg6 arg7 harg7 arg8 harg8 arg9 harg9 arg10 harg10 arg11 harg11 arg12 harg12 arg13 harg13 X2 X3 X4 f12 f13 (k.val + 1)) := by
  iintro ⟨H2, H3, H4, H10, ⟨%g11, H11, %h11⟩, H12, H13⟩
  unfold k0_t1_body
  rw [wp_bind]
  iapply (wp_wand_r frame (wpE (defs₀ (F := F)) Variants.none (c : Thread nD τ) none) Set.univ)
  isplitl [H2]
  · iapply (part2_run c i arg2 harg2 arg3 harg3 arg4 harg4 arg5 harg5 arg6 harg6 arg7 harg7 arg8 harg8 arg9 harg9 arg10 harg10 arg11 harg11 arg12 harg12 arg13 harg13 arg1 k X2)
    iexact H2
  iintro %r ⟨%hr, H2⟩
  subst hr
  dsimp only
  rw [wp_bind]
  iapply (wp_wand_r frame (wpE (defs₀ (F := F)) Variants.none (c : Thread nD τ) none) Set.univ)
  isplitl [H2 H3 H4]
  · iapply (part3_run c i arg2 harg2 arg3 harg3 arg4 harg4 arg5 harg5 arg6 harg6 arg7 harg7 arg8 harg8 arg9 harg9 arg10 harg10 arg11 harg11 arg12 harg12 arg13 harg13 k _ X2 X3 X4)
    isplitl [H2]; · iexact H2
    isplitl [H3]; · iexact H3
    iexact H4
  iintro %r ⟨%hr, H2, H3, H4⟩
  subst hr
  dsimp only
  rw [wp_bind]
  iapply (wp_wand_r frame (wpE (defs₀ (F := F)) Variants.none (c : Thread nD τ) none) Set.univ)
  isplitl [H2 H3 H4 H10 H12 H13]
  · iapply (part4_run c i arg2 harg2 arg3 harg3 arg4 harg4 arg5 harg5 arg6 harg6 arg7 harg7 arg8 harg8 arg9 harg9 arg10 harg10 arg11 harg11 arg12 harg12 arg13 harg13 v0 k _ _ X2 X3 X4 f12 f13)
    isplitl [H2]; · iexact H2
    isplitl [H3]; · iexact H3
    isplitl [H4]; · iexact H4
    isplitl [H10]; · iexact H10
    isplitl [H12]; · iexact H12
    iexact H13
  iintro %r ⟨%hr, H2, H3, H4, H10, H12, H13⟩
  subst hr
  by_cases hk : k.val = 0
  · rw [dif_pos ((cond1_iff k).mpr hk), dif_neg (fun h => (cond2_iff k).mp h hk)]
    sl_exec
    sl_step
    isplitl [H2]; · iexact H2
    isplitl [H3]; · iexact H3
    isplitl [H4]; · iexact H4
    isplitl [H10]; · iexact H10
    isplitl [H11]
    · iexists _
      isplitl [H11]; · iexact H11
      ipureintro
      intro n hn
      obtain rfl : n = 0 := by omega
      have e := View.read_writes_full arg11.view g11 inb_S1x1x128_S1x1x128_0_0_0
        (k0_pay2 (k0_pay24 (Scalar.muli (Scf.iv 0#32 1#32 k.val) 32#32) (tests (arg2.view.read (Elt F) X2) (arg3.view.read (Elt F) X3) (arg4.view.read (Elt F) X4) k.val) k0_pay18 k0_pay19)) []
      refine Eq.trans e ?_
      rw [hk]
      rfl
    isplitl [H12]; · iexact H12
    iexact H13
  · rw [dif_neg (fun h => hk ((cond1_iff k).mp h)), dif_pos ((cond2_iff k).mpr hk)]
    sl_exec
    sl_step
    isplitl [H2]; · iexact H2
    isplitl [H3]; · iexact H3
    isplitl [H4]; · iexact H4
    isplitl [H10]; · iexact H10
    isplitl [H11]
    · iexists _
      isplitl [H11]; · iexact H11
      ipureintro
      intro n hn
      obtain ⟨m, rfl⟩ : ∃ m, n = m + 1 := ⟨n - 1, by omega⟩
      have hm := h11 m (by omega)
      have e0 := View.readAt_full arg11.view g11 inb_S1x1x128_S1x1x128_0_0_0
      have e := View.read_writes_full arg11.view g11 inb_S1x1x128_S1x1x128_0_0_0
        (k0_pay3 (k0_pay24 (Scalar.muli (Scf.iv 0#32 1#32 k.val) 32#32) (tests (arg2.view.read (Elt F) X2) (arg3.view.read (Elt F) X3) (arg4.view.read (Elt F) X4) k.val) k0_pay18 k0_pay19)
          (View.readAt (Elt F) arg11.view (Rect.unit (s := S1x1x128) ![0, 0, 0] S1x1x128.size inb_S1x1x128_S1x1x128_0_0_0).toLoadRect g11)) []
      refine Eq.trans e ?_
      rw [e0, hm, show k.val = m + 1 by omega]
      rfl
    isplitl [H12]; · iexact H12
    iexact H13

end Cert.KernelIdeal.Run
-- ==== Proof.KernelIdeal.Bands.lean ====
module

public import proofs.«01_k».proof.Proof.Gen.KernelIdeal.Frame
public import proofs.«01_k».proof.Proof.Gen.KernelIdeal.Loops
public import proofs.«01_k».proof.Proof.KernelIdeal.Group
public import Idealize.ShloMosaic.Lib.WritesUnit
public import Idealize.ShloMosaic.Lib.VecWindow

@[expose] public section

set_option maxRecDepth 8192
set_option maxHeartbeats 400000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- One slot of the codes' scratch. -/
def slab (s : ℕ) (C : Vec F S2x1024x7168 .fp8e4m3) : Vec F S1x1024x7168 .fp8e4m3 := fun y =>
  C (ix3 ⟨s % 2, Nat.mod_lt _ (by decide)⟩ (y 1) (y 2))

/-- One slot of the scales' scratch. -/
def slabS (s : ℕ) (C : Vec F S2x1024x128 .f32) : Vec F S1x1024x128 .f32 := fun y =>
  C (ix3 ⟨s % 2, Nat.mod_lt _ (by decide)⟩ (y 1) (y 2))

/-- One element of a product's block after its scales, its bias and its gate. -/
def yCell (p s w : Elt F .f32) (b g : Elt F .bf16) : Elt F .bf16 :=
  FloatOps.truncf FTy.bf16 bitsLt_bf16_f32 (FloatOps.mulf (FloatOps.addf (FloatOps.mulf (FloatOps.mulf p s) w)
    (FloatOps.extf FTy.f32 bitsLt_bf16_f32 b)) (FloatOps.extf FTy.f32 bitsLt_bf16_f32 g))

/-- The lane of a column. -/
def lane (n : ℕ) : Fin 128 := ⟨n % 128, Nat.mod_lt _ (by decide)⟩

/-- A block of the product after its scales, bias and gate. -/
def yElt (v10 : FVec F S1024x1280 .f32) (v13 : FVec F S1024x128 .f32) (ws : Vec F S1x1280 .f32) (bias : Vec F S1x1280 .bf16)
    (gate : Vec F S1x1x1280 .bf16) : Vec F S1024x1280 .bf16 := fun y =>
  yCell (v10 (ix2 (y 0) (y 1))) (v13 (ix2 (y 0) (lane (y 1).val))) (ws (ix2 0 (y 1))) (bias (ix2 0 (y 1))) (gate (ix3 0 0 (y 1)))

/-- The block of the product of one slot's codes, after its scales, bias and gate. -/
def yBlk (v7 : Vec F S1x1024x7168 .fp8e4m3) (v12 : Vec F S1x1024x128 .f32) (v9 : Vec F S7168x1280 .fp8e4m3) (ws : Vec F S1x1280 .f32)
    (bias : Vec F S1x1280 .bf16) (gate : Vec F S1x1x1280 .bf16) : Vec F S1024x1280 .bf16 :=
  yElt (k0_pay25 v7 v9) (k0_pay26 v12) ws bias gate

/-- A column of band `b`. -/
def bcol (b : ℕ) (hb : b < 10) (l : Fin 128) : Fin 1280 := ⟨128 * b + l.val, by omega⟩

/-- A load of a row of 1280 at a band's columns. -/
theorem readAt_band2 {e : EltTy} (m : Memref sig .tc .vmem S1x1280 e) (X : BufTy.Contents (Elt F) m.view.ty) {off : Fin 2 → ℕ}
    (inb : ∀ a, off a + S1x128.size a ≤ S1x1280.size a) (b : ℕ) (hb : b < 10) (h : off = ![0, 128 * b]) (l : Fin 128) :
    View.readAt (Elt F) m.view (Rect.unit (s := S1x1280) off S1x128.size inb).toLoadRect X (ix2 0 l) = m.view.read (Elt F) X (ix2 0 (bcol b hb l)) := by
  subst h
  refine congrArg (m.view.read (Elt F) X) (funext fun a => Fin.ext ?_)
  fin_cases a
  · rfl
  · show 128 * b + 1 * l.val = 128 * b + l.val
    omega

/-- The same for a row with one more unit axis. -/
theorem readAt_band3 {e : EltTy} (m : Memref sig .tc .vmem S1x1x1280 e) (X : BufTy.Contents (Elt F) m.view.ty) {off : Fin 3 → ℕ}
    (inb : ∀ a, off a + S1x1x128.size a ≤ S1x1x1280.size a) (b : ℕ) (hb : b < 10) (h : off = ![0, 0, 128 * b]) (l : Fin 128) :
    View.readAt (Elt F) m.view (Rect.unit (s := S1x1x1280) off S1x1x128.size inb).toLoadRect X (ix3 0 0 l) = m.view.read (Elt F) X (ix3 0 0 (bcol b hb l)) := by
  subst h
  refine congrArg (m.view.read (Elt F) X) (funext fun a => Fin.ext ?_)
  fin_cases a
  · rfl
  · rfl
  · show 128 * b + 1 * l.val = 128 * b + l.val
    omega

/-- A band stored over a list of stores that already left `G` in the bands before it. -/
theorem band_read (m : Memref sig .tc .vmem S1024x1280 .bf16) (f : BufTy.Contents (Elt F) m.view.ty) (G : Vec F S1024x1280 .bf16) (b : ℕ) (hb : b < 10)
    {off : Fin 2 → ℕ} (inb : ∀ a, off a + S1024x128.size a ≤ S1024x1280.size a) (w : Vec F S1024x128 .bf16) (L : List (View.Piece (Elt F) S1024x1280 .bf16))
    (h : off = ![0, 128 * b]) (hw : ∀ (r : Fin 1024) (l : Fin 128), w (ix2 r l) = G (ix2 r (bcol b hb l)))
    (hL : ∀ y : S1024x1280.Idx, (y 1).val < 128 * b → m.view.read (Elt F) (m.view.writes (Elt F) f L) y = G y)
    (y : S1024x1280.Idx) (hy : (y 1).val < 128 * b + 128) :
    m.view.read (Elt F) (m.view.writes (Elt F) f (⟨Rect.unit (s := S1024x1280) off S1024x128.size inb, w⟩ :: L)) y = G y := by
  have h0 : (y 0).val < 1024 := (y 0).isLt
  by_cases hlt : (y 1).val < 128 * b
  · rw [View.read_writes_cons_unit_of_not_mem m.view f inb w L y h 1 (Or.inl hlt)]
    exact hL y hlt
  · have hl : (y 1).val - 128 * b < 128 := by omega
    rw [View.read_writes_cons_unit_of_mem m.view f inb w L y (ix2 ⟨(y 0).val, h0⟩ ⟨(y 1).val - 128 * b, hl⟩) h (by
      intro a
      fin_cases a
      · show (y 0).val = 0 + (y 0).val
        omega
      · show (y 1).val = 128 * b + ((y 1).val - 128 * b)
        omega)]
    rw [hw]
    refine congrArg G (funext fun a => Fin.ext ?_)
    fin_cases a
    · rfl
    · show 128 * b + ((y 1).val - 128 * b) = (y 1).val
      omega

/-- A band's payload, from the values its loads read. -/
theorem band_eq (w : Vec F S1024x128 .bf16) (v10 : FVec F S1024x1280 .f32) (v13 : FVec F S1024x128 .f32) (ws : Vec F S1x1280 .f32)
    (bias : Vec F S1x1280 .bf16) (gate : Vec F S1x1x1280 .bf16) (b : ℕ) (hb : b < 10) (v16 : Vec F S1x128 .f32) (v20 : Vec F S1x128 .bf16)
    (v25 : Vec F S1x1x128 .bf16) (r : Fin 1024) (l : Fin 128)
    (hw : w (ix2 r l) = yCell (v10 (ix2 r (bcol b hb l))) (v13 (ix2 r l)) (v16 (ix2 0 l)) (v20 (ix2 0 l)) (v25 (ix3 0 0 l)))
    (h16 : v16 (ix2 0 l) = ws (ix2 0 (bcol b hb l))) (h20 : v20 (ix2 0 l) = bias (ix2 0 (bcol b hb l)))
    (h25 : v25 (ix3 0 0 l) = gate (ix3 0 0 (bcol b hb l))) :
    w (ix2 r l) = yElt v10 v13 ws bias gate (ix2 r (bcol b hb l)) := by
  have hlane : lane (bcol b hb l).val = l := by
    refine Fin.ext ?_
    show (128 * b + l.val) % 128 = l.val
    omega
  rw [hw, h16, h20, h25]
  show _ = yCell _ (v13 (ix2 r (lane (bcol b hb l).val))) _ _ _
  rw [hlane]
  rfl

section Bands
variable (v7 : Vec F S1x1024x7168 .fp8e4m3) (v9 : Vec F S7168x1280 .fp8e4m3) (v12 : Vec F S1x1024x128 .f32) (v10 : FVec F S1024x1280 .f32) (v13 : FVec F S1024x128 .f32)
   (v16 : Vec F S1x128 .f32) (v20 : Vec F S1x128 .bf16) (v25 : Vec F S1x1x128 .bf16) (r : Fin 1024) (l : Fin 128)

/-- Band 0 at a row and a lane. -/
theorem band0 : k0_pay27 v7 v9 v12 v16 v20 v25 (ix2 r l) = yCell ((k0_pay25 v7 v9) (ix2 r (bcol 0 (by decide) l))) ((k0_pay26 v12) (ix2 r l)) (v16 (ix2 0 l)) (v20 (ix2 0 l)) (v25 (ix3 0 0 l)) := by
  pointwise [k0_pay27, k0_pay26]
  simp only [yCell, bcol, Nat.mul_zero, Nat.zero_add]

/-- Band 1 at a row and a lane. -/
theorem band1 : k0_pay29 (k0_pay28 v7 v9 v12 v16 v20) v25 (ix2 r l) = yCell ((k0_pay25 v7 v9) (ix2 r (bcol 1 (by decide) l))) ((k0_pay26 v12) (ix2 r l)) (v16 (ix2 0 l)) (v20 (ix2 0 l)) (v25 (ix3 0 0 l)) := by
  pointwise [k0_pay29, k0_pay28, k0_pay26]
  simp only [yCell, bcol]

/-- Band 2 at a row and a lane. -/
theorem band2 : k0_pay30 v10 v13 v16 v20 v25 (ix2 r l) = yCell ((v10) (ix2 r (bcol 2 (by decide) l))) ((v13) (ix2 r l)) (v16 (ix2 0 l)) (v20 (ix2 0 l)) (v25 (ix3 0 0 l)) := by
  pointwise [k0_pay30]
  simp only [yCell, bcol]

/-- Band 3 at a row and a lane. -/
theorem band3 : k0_pay33 (k0_pay31 v10 v13 v16 v20) (k0_pay32 v25) (ix2 r l) = yCell ((v10) (ix2 r (bcol 3 (by decide) l))) ((v13) (ix2 r l)) (v16 (ix2 0 l)) (v20 (ix2 0 l)) (v25 (ix3 0 0 l)) := by
  pointwise [k0_pay33, k0_pay31, k0_pay32]
  simp only [yCell, bcol]

/-- Band 4 at a row and a lane. -/
theorem band4 : k0_pay34 v10 v13 v16 v20 v25 (ix2 r l) = yCell ((v10) (ix2 r (bcol 4 (by decide) l))) ((v13) (ix2 r l)) (v16 (ix2 0 l)) (v20 (ix2 0 l)) (v25 (ix3 0 0 l)) := by
  pointwise [k0_pay34]
  simp only [yCell, bcol]

/-- Band 5 at a row and a lane. -/
theorem band5 : k0_pay35 v10 v13 v16 v20 v25 (ix2 r l) = yCell ((v10) (ix2 r (bcol 5 (by decide) l))) ((v13) (ix2 r l)) (v16 (ix2 0 l)) (v20 (ix2 0 l)) (v25 (ix3 0 0 l)) := by
  pointwise [k0_pay35]
  simp only [yCell, bcol]

/-- Band 6 at a row and a lane. -/
theorem band6 : k0_pay36 v10 v13 v16 v20 v25 (ix2 r l) = yCell ((v10) (ix2 r (bcol 6 (by decide) l))) ((v13) (ix2 r l)) (v16 (ix2 0 l)) (v20 (ix2 0 l)) (v25 (ix3 0 0 l)) := by
  pointwise [k0_pay36]
  simp only [yCell, bcol]

/-- Band 7 at a row and a lane. -/
theorem band7 : k0_pay37 v10 v13 v16 v20 v25 (ix2 r l) = yCell ((v10) (ix2 r (bcol 7 (by decide) l))) ((v13) (ix2 r l)) (v16 (ix2 0 l)) (v20 (ix2 0 l)) (v25 (ix3 0 0 l)) := by
  pointwise [k0_pay37]
  simp only [yCell, bcol]

/-- Band 8 at a row and a lane. -/
theorem band8 : k0_pay4 v13 (k0_pay38 v10) v16 v20 v25 (ix2 r l) = yCell ((v10) (ix2 r (bcol 8 (by decide) l))) ((v13) (ix2 r l)) (v16 (ix2 0 l)) (v20 (ix2 0 l)) (v25 (ix3 0 0 l)) := by
  pointwise [k0_pay4, k0_pay38]
  simp only [yCell, bcol]

/-- Band 9 at a row and a lane. -/
theorem band9 : k0_pay5 v10 v13 v16 v20 v25 (ix2 r l) = yCell ((v10) (ix2 r (bcol 9 (by decide) l))) ((v13) (ix2 r l)) (v16 (ix2 0 l)) (v20 (ix2 0 l)) (v25 (ix3 0 0 l)) := by
  pointwise [k0_pay5]
  simp only [yCell, bcol]

end Bands

/-- The slot the product reads, loaded from the codes' scratch, is what that slot held before the point's own stores. -/
theorem slab_load (i : grid0.Coords) (m : Memref sig .tc .vmem S2x1024x7168 .fp8e4m3) (g f : BufTy.Contents (Elt F) m.view.ty) {off : Fin 3 → ℕ}
    (inb : ∀ a, off a + S1x1024x7168.size a ≤ S2x1024x7168.size a) (h : off = ![1 - ((i 0).val % 2), 0, 0])
    (hg : ∀ y : S2x1024x7168.Idx, (y 0).val ≠ (i 0).val % 2 → m.view.read (Elt F) g y = m.view.read (Elt F) f y) :
    View.readAt (Elt F) m.view (Rect.unit (s := S2x1024x7168) off S1x1024x7168.size inb).toLoadRect g = slab ((i 0).val + 1) (m.view.read (Elt F) f) := by
  subst h
  funext j
  have hj : (j 0).val < 1 := (j 0).isLt
  have e : (Rect.unit (s := S2x1024x7168) ![1 - ((i 0).val % 2), 0, 0] S1x1024x7168.size inb).emb j
      = ix3 ⟨((i 0).val + 1) % 2, Nat.mod_lt _ (by decide)⟩ (j 1) (j 2) := by
    refine funext fun a => Fin.ext ?_
    fin_cases a
    · show 1 - (i 0).val % 2 + 1 * (j 0).val = ((i 0).val + 1) % 2
      omega
    · show 0 + 1 * (j 1).val = (j 1).val
      omega
    · show 0 + 1 * (j 2).val = (j 2).val
      omega
  refine (congrArg (m.view.read (Elt F) g) e).trans (hg _ ?_)
  show ((i 0).val + 1) % 2 ≠ (i 0).val % 2
  omega

/-- The same for the scales' scratch. -/
theorem slabS_load (i : grid0.Coords) (m : Memref sig .tc .vmem S2x1024x128 .f32) (g f : BufTy.Contents (Elt F) m.view.ty) {off : Fin 3 → ℕ}
    (inb : ∀ a, off a + S1x1024x128.size a ≤ S2x1024x128.size a) (h : off = ![1 - ((i 0).val % 2), 0, 0])
    (hg : ∀ y : S2x1024x128.Idx, (y 0).val ≠ (i 0).val % 2 → m.view.read (Elt F) g y = m.view.read (Elt F) f y) :
    View.readAt (Elt F) m.view (Rect.unit (s := S2x1024x128) off S1x1024x128.size inb).toLoadRect g = slabS ((i 0).val + 1) (m.view.read (Elt F) f) := by
  subst h
  funext j
  have hj : (j 0).val < 1 := (j 0).isLt
  have e : (Rect.unit (s := S2x1024x128) ![1 - ((i 0).val % 2), 0, 0] S1x1024x128.size inb).emb j
      = ix3 ⟨((i 0).val + 1) % 2, Nat.mod_lt _ (by decide)⟩ (j 1) (j 2) := by
    refine funext fun a => Fin.ext ?_
    fin_cases a
    · show 1 - (i 0).val % 2 + 1 * (j 0).val = ((i 0).val + 1) % 2
      omega
    · show 0 + 1 * (j 1).val = (j 1).val
      omega
    · show 0 + 1 * (j 2).val = (j 2).val
      omega
  refine (congrArg (m.view.read (Elt F) g) e).trans (hg _ ?_)
  show ((i 0).val + 1) % 2 ≠ (i 0).val % 2
  omega

end Cert.KernelIdeal.Run
-- ==== Proof.KernelIdeal.Point.lean ====
module

public import proofs.«01_k».proof.Proof.Gen.KernelIdeal.Frame
public import proofs.«01_k».proof.Proof.Gen.KernelIdeal.Loops
public import proofs.«01_k».proof.Proof.KernelIdeal.Group
public import proofs.«01_k».proof.Proof.KernelIdeal.Bands
public import Idealize.ShloMosaic.Lib.WritesUnit

@[expose] public section

set_option maxRecDepth 8192
set_option maxHeartbeats 400000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- One grid point: the chunk's codes and scales into their blocks and into the slot's slabs, and, past the first row of
    points, the product of the other slot's slab with the block of weights. -/
theorem body_run (c : Dev nD) (i : grid0.Coords) (arg2 : Memref sig .tc .vmem S128x7168 .bf16) (harg2 : arg2.IsWhole) (arg3 : Memref sig .tc .vmem S1x1x7168 .bf16) (harg3 : arg3.IsWhole) (arg4 : Memref sig .tc .vmem S1x1x7168 .bf16) (harg4 : arg4.IsWhole) (arg5 : Memref sig .tc .vmem S1x1x1280 .bf16) (harg5 : arg5.IsWhole) (arg6 : Memref sig .tc .vmem S7168x1280 .fp8e4m3) (harg6 : arg6.IsWhole) (arg7 : Memref sig .tc .vmem S1x1280 .f32) (harg7 : arg7.IsWhole) (arg8 : Memref sig .tc .vmem S1x1280 .bf16) (harg8 : arg8.IsWhole) (arg9 : Memref sig .tc .vmem S1024x1280 .bf16) (harg9 : arg9.IsWhole) (arg10 : Memref sig .tc .vmem S128x7168 .fp8e4m3) (harg10 : arg10.IsWhole) (arg11 : Memref sig .tc .vmem S1x1x128 .f32) (harg11 : arg11.IsWhole) (arg12 : Memref sig .tc .vmem S2x1024x7168 .fp8e4m3) (harg12 : arg12.IsWhole) (arg13 : Memref sig .tc .vmem S2x1024x128 .f32) (harg13 : arg13.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f12 : BufTy.Contents (Elt F) arg12.view.ty) (f13 : BufTy.Contents (Elt F) arg13.view.ty) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (arg12.view.loc (c : Thread nD τ) ↦[arg12.view.set]{fullShare} f12) ∗ (arg13.view.loc (c : Thread nD τ) ↦[arg13.view.set]{fullShare} f13))
    ⊢ wp (M := 𝕄) frame (wpE (defs₀ (F := F)) Variants.none (c : Thread nD τ) none) Set.univ
      (cc0_adaln_fp8_linear i arg2 harg2 arg3 harg3 arg4 harg4 arg5 harg5 arg6 harg6 arg7 harg7 arg8 harg8 arg9 harg9 arg10 harg10 arg11 harg11 arg12 harg12 arg13 harg13)
      (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (∃ f, (arg9.view.loc (c : Thread nD τ) ↦[arg9.view.set]{fullShare} f) ∗ ⌜k0_cond3 i = 1#1 → ∀ y : S1024x1280.Idx, arg9.view.read (Elt F) f y = yBlk (slab ((i 0).val + 1) (arg12.view.read (Elt F) f12)) (slabS ((i 0).val + 1) (arg13.view.read (Elt F) f13)) (arg6.view.read (Elt F) X6) (arg7.view.read (Elt F) X7) (arg8.view.read (Elt F) X8) (arg5.view.read (Elt F) X5) y⌝)
      ∗ (∃ f, (arg10.view.loc (c : Thread nD τ) ↦[arg10.view.set]{fullShare} f) ∗ ⌜∀ y : S128x7168.Idx, arg10.view.read (Elt F) f y = codeAt (arg2.view.read (Elt F) X2) (arg3.view.read (Elt F) X3) (arg4.view.read (Elt F) X4) (y 0).val (y 1).val⌝)
      ∗ (∃ f, (arg11.view.loc (c : Thread nD τ) ↦[arg11.view.set]{fullShare} f) ∗ ⌜arg11.view.read (Elt F) f = diagSum (arg2.view.read (Elt F) X2) (arg3.view.read (Elt F) X3) (arg4.view.read (Elt F) X4) 3⌝)
      ∗ (∃ f, (arg12.view.loc (c : Thread nD τ) ↦[arg12.view.set]{fullShare} f) ∗ ⌜∀ y : S2x1024x7168.Idx, arg12.view.read (Elt F) f y =
          if (y 0).val = (i 0).val % 2 ∧ 128 * (i 1).val ≤ (y 1).val ∧ (y 1).val < 128 * (i 1).val + 128 then
            codeAt (arg2.view.read (Elt F) X2) (arg3.view.read (Elt F) X3) (arg4.view.read (Elt F) X4) ((y 1).val - 128 * (i 1).val) (y 2).val else arg12.view.read (Elt F) f12 y⌝)
      ∗ (∃ f, (arg13.view.loc (c : Thread nD τ) ↦[arg13.view.set]{fullShare} f) ∗ ⌜∀ y : S2x1024x128.Idx, arg13.view.read (Elt F) f y =
          if (y 0).val = (i 0).val % 2 ∧ 128 * (i 1).val ≤ (y 1).val ∧ (y 1).val < 128 * (i 1).val + 128 then
            scaleAt (arg2.view.read (Elt F) X2) (arg3.view.read (Elt F) X3) (arg4.view.read (Elt F) X4) ((y 1).val - 128 * (i 1).val) (y 2).val else arg13.view.read (Elt F) f13 y⌝))) := by
  rw [cc0_adaln_fp8_linear_eq_skeleton]
  unfold cc0_adaln_fp8_linear_skel
  iintro ⟨H2, H3, H4, H5, H6, H7, H8, ⟨%f9, H9⟩, ⟨%f10, H10⟩, ⟨%f11, H11⟩, H12, H13⟩
  iapply (Scf.wp_for_bind frame (wpE (defs₀ (F := F)) Variants.none (c : Thread nD τ) none) Set.univ _ _ _ k0_t1_ok _ _
    (fun k (_ : PUnit) => I1 c i arg2 harg2 arg3 harg3 arg4 harg4 arg5 harg5 arg6 harg6 arg7 harg7 arg8 harg8 arg9 harg9 arg10 harg10 arg11 harg11 arg12 harg12 arg13 harg13 X2 X3 X4 f12 f13 k)
    (fun k acc => step1 c i arg2 harg2 arg3 harg3 arg4 harg4 arg5 harg5 arg6 harg6 arg7 harg7 arg8 harg8 arg9 harg9 arg10 harg10 arg11 harg11 arg12 harg12 arg13 harg13 _ _ X2 X3 X4 f12 f13 k acc)) $$ [H2 H3 H4 H10 H11 H12 H13]
  · isplitl [H2]; · iexact H2
    isplitl [H3]; · iexact H3
    isplitl [H4]; · iexact H4
    isplitl [H10]
    · iexists f10
      isplitl [H10]; · iexact H10
      ipureintro; intro y hy; omega
    isplitl [H11]
    · iexists f11
      isplitl [H11]; · iexact H11
      ipureintro; intro n hn; omega
    isplitl [H12]
    · iexists f12
      isplitl [H12]; · iexact H12
      ipureintro; intro y; rw [if_neg (by omega)]
    · iexists f13
      isplitl [H13]; · iexact H13
      ipureintro; intro y; rw [if_neg (by omega)]
  iintro %acc ⟨H2, H3, H4, ⟨%g10, H10, %h10⟩, ⟨%g11, H11, %h11⟩, ⟨%g12, H12, %h12⟩, ⟨%g13, H13, %h13⟩⟩
  have ht : Scf.trips k0_t1_loop.lb k0_t1_loop.ub k0_t1_loop.st = 4 := trips_t1
  rw [ht] at h10 h11 h12 h13
  by_cases hc : k0_cond3 i = 1#1
  · rw [dif_pos hc]
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _
      isplitl [H9]; · iexact H9
      ipureintro
      intro _ y
      rw [← slab_load i arg12 g12 f12 (k0_off12_inb i hc) (k0_off12_eq i) (fun y hy => by rw [h12, if_neg (fun h => hy h.1)]),
        ← slabS_load i arg13 g13 f13 (k0_off13_inb i hc) (k0_off13_eq i) (fun y hy => by rw [h13, if_neg (fun h => hy h.1)]),
        ← View.readAt_full arg6.view X6 inb_S7168x1280_S7168x1280_0_0]
      refine band_read arg9 _ _ 9 (by decide) _ _ _ rfl (fun r l => band_eq _ _ _ _ _ _ 9 (by decide) _ _ _ r l (band9 _ _ _ _ _ _ _)
        (readAt_band2 arg7 X7 _ 9 (by decide) rfl l) (readAt_band2 arg8 X8 _ 9 (by decide) rfl l) (readAt_band3 arg5 X5 _ 9 (by decide) rfl l)) (
      band_read arg9 _ _ 8 (by decide) _ _ _ rfl (fun r l => band_eq _ _ _ _ _ _ 8 (by decide) _ _ _ r l (band8 _ _ _ _ _ _ _)
        (readAt_band2 arg7 X7 _ 8 (by decide) rfl l) (readAt_band2 arg8 X8 _ 8 (by decide) rfl l) (readAt_band3 arg5 X5 _ 8 (by decide) rfl l)) (
      band_read arg9 _ _ 7 (by decide) _ _ _ rfl (fun r l => band_eq _ _ _ _ _ _ 7 (by decide) _ _ _ r l (band7 _ _ _ _ _ _ _)
        (readAt_band2 arg7 X7 _ 7 (by decide) rfl l) (readAt_band2 arg8 X8 _ 7 (by decide) rfl l) (readAt_band3 arg5 X5 _ 7 (by decide) rfl l)) (
      band_read arg9 _ _ 6 (by decide) _ _ _ rfl (fun r l => band_eq _ _ _ _ _ _ 6 (by decide) _ _ _ r l (band6 _ _ _ _ _ _ _)
        (readAt_band2 arg7 X7 _ 6 (by decide) rfl l) (readAt_band2 arg8 X8 _ 6 (by decide) rfl l) (readAt_band3 arg5 X5 _ 6 (by decide) rfl l)) (
      band_read arg9 _ _ 5 (by decide) _ _ _ rfl (fun r l => band_eq _ _ _ _ _ _ 5 (by decide) _ _ _ r l (band5 _ _ _ _ _ _ _)
        (readAt_band2 arg7 X7 _ 5 (by decide) rfl l) (readAt_band2 arg8 X8 _ 5 (by decide) rfl l) (readAt_band3 arg5 X5 _ 5 (by decide) rfl l)) (
      band_read arg9 _ _ 4 (by decide) _ _ _ rfl (fun r l => band_eq _ _ _ _ _ _ 4 (by decide) _ _ _ r l (band4 _ _ _ _ _ _ _)
        (readAt_band2 arg7 X7 _ 4 (by decide) rfl l) (readAt_band2 arg8 X8 _ 4 (by decide) rfl l) (readAt_band3 arg5 X5 _ 4 (by decide) rfl l)) (
      band_read arg9 _ _ 3 (by decide) _ _ _ rfl (fun r l => band_eq _ _ _ _ _ _ 3 (by decide) _ _ _ r l (band3 _ _ _ _ _ _ _)
        (readAt_band2 arg7 X7 _ 3 (by decide) rfl l) (readAt_band2 arg8 X8 _ 3 (by decide) rfl l) (readAt_band3 arg5 X5 _ 3 (by decide) rfl l)) (
      band_read arg9 _ _ 2 (by decide) _ _ _ rfl (fun r l => band_eq _ _ _ _ _ _ 2 (by decide) _ _ _ r l (band2 _ _ _ _ _ _ _)
        (readAt_band2 arg7 X7 _ 2 (by decide) rfl l) (readAt_band2 arg8 X8 _ 2 (by decide) rfl l) (readAt_band3 arg5 X5 _ 2 (by decide) rfl l)) (
      band_read arg9 _ _ 1 (by decide) _ _ _ rfl (fun r l => band_eq _ _ _ _ _ _ 1 (by decide) _ _ _ r l (band1 _ _ _ _ _ _ _ _)
        (readAt_band2 arg7 X7 _ 1 (by decide) rfl l) (readAt_band2 arg8 X8 _ 1 (by decide) rfl l) (readAt_band3 arg5 X5 _ 1 (by decide) rfl l)) (
      band_read arg9 _ _ 0 (by decide) _ _ _ rfl (fun r l => band_eq _ _ _ _ _ _ 0 (by decide) _ _ _ r l (band0 _ _ _ _ _ _ _ _)
        (readAt_band2 arg7 X7 _ 0 (by decide) rfl l) (readAt_band2 arg8 X8 _ 0 (by decide) rfl l) (readAt_band3 arg5 X5 _ 0 (by decide) rfl l)) (
      fun y hy => absurd hy (Nat.not_lt_zero _))))))))))) y (y 1).isLt
    isplitl [H10]
    · iexists g10
      isplitl [H10]; · iexact H10
      ipureintro
      exact fun y => h10 y (y 0).isLt
    isplitl [H11]
    · iexists g11
      isplitl [H11]; · iexact H11
      ipureintro
      exact h11 3 rfl
    isplitl [H12]
    · iexists g12
      isplitl [H12]; · iexact H12
      ipureintro
      exact h12
    · iexists g13
      isplitl [H13]; · iexact H13
      ipureintro
      exact h13
  · rw [dif_neg hc]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _
      isplitl [H9]; · iexact H9
      ipureintro
      exact fun h => absurd h hc
    isplitl [H10]
    · iexists g10
      isplitl [H10]; · iexact H10
      ipureintro
      exact fun y => h10 y (y 0).isLt
    isplitl [H11]
    · iexists g11
      isplitl [H11]; · iexact H11
      ipureintro
      exact h11 3 rfl
    isplitl [H12]
    · iexists g12
      isplitl [H12]; · iexact H12
      ipureintro
      exact h12
    · iexists g13
      isplitl [H13]; · iexact H13
      ipureintro
      exact h13

end Cert.KernelIdeal.Run
-- ==== Proof.KernelIdeal.Run.lean ====
module

public import proofs.«01_k».proof.Proof.Gen.KernelIdeal.Frame
public import proofs.«01_k».proof.Proof.Gen.KernelIdeal.Points
public import proofs.«01_k».proof.Proof.KernelIdeal.Point
public import Idealize.ShloMosaic.Lib.Pipeline.ArrRel

@[expose] public section

set_option maxRecDepth 16384
set_option maxHeartbeats 400000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Point `p` of the grid. -/
def pt (p : ℕ) : Fin cfg0.N := ⟨p % 264, by rw [show cfg0.N = 264 from N_0]; exact Nat.mod_lt _ (by decide)⟩

theorem pt_val (t : Fin cfg0.N) : pt t.val = t := by
  have h : t.val < 264 := Nat.lt_of_lt_of_eq t.isLt N_0
  exact Fin.ext (Nat.mod_eq_of_lt h)

/-- A point's row of points and its place in that row. -/
theorem coords_val : ∀ t : Fin cfg0.N, ((grid0.coords t) 0).val = t.val / 8 ∧ ((grid0.coords t) 1).val = t.val % 8 := by
  decide +kernel

/-- The chunk of rows, its scale row and its shift row that a point is handed. -/
def xAt (c : Dev nD) (t : Fin cfg0.N) : Vec F S128x7168 .bf16 := iblk m c 0 t
@[inherit_doc xAt] def sAt (c : Dev nD) (t : Fin cfg0.N) : Vec F S1x1x7168 .bf16 := iblk m c 1 t
@[inherit_doc xAt] def hAt (c : Dev nD) (t : Fin cfg0.N) : Vec F S1x1x7168 .bf16 := iblk m c 2 t
/-- The gate's, the weights', the weights' scales' and the bias's columns that a point is handed. -/
def gAt (c : Dev nD) (t : Fin cfg0.N) : Vec F S1x1x1280 .bf16 := iblk m c 3 t
@[inherit_doc gAt] def wAt (c : Dev nD) (t : Fin cfg0.N) : Vec F S7168x1280 .fp8e4m3 := iblk m c 4 t
@[inherit_doc gAt] def wsAt (c : Dev nD) (t : Fin cfg0.N) : Vec F S1x1280 .f32 := iblk m c 5 t
@[inherit_doc gAt] def bAt (c : Dev nD) (t : Fin cfg0.N) : Vec F S1x1280 .bf16 := iblk m c 6 t

/-- The code that point `p` gives its row `r` at column `l`. -/
def codeT (c : Dev nD) (p r l : ℕ) : Elt F .fp8e4m3 := codeAt (xAt m c (pt p)) (sAt m c (pt p)) (hAt m c (pt p)) r l
/-- The scale that point `p` gives its row `r`. -/
def scaleT (c : Dev nD) (p r l : ℕ) : Elt F .f32 := scaleAt (xAt m c (pt p)) (sAt m c (pt p)) (hAt m c (pt p)) r l

/-- The codes of the eight chunks from point `q` on, as one slab. -/
def slabT (c : Dev nD) (q : ℕ) : Vec F S1x1024x7168 .fp8e4m3 := fun y => codeT m c (q + (y 1).val / 128) ((y 1).val % 128) (y 2).val
/-- Their scales. -/
def slabST (c : Dev nD) (q : ℕ) : Vec F S1x1024x128 .f32 := fun y => scaleT m c (q + (y 1).val / 128) ((y 1).val % 128) (y 2).val

/-- The block of the product that point `t` leaves: of the chunks of the row of points before. -/
def yT (c : Dev nD) (t : Fin cfg0.N) : Vec F S1024x1280 .bf16 :=
  yBlk (slabT m c (8 * (t.val / 8 - 1))) (slabST m c (8 * (t.val / 8 - 1))) (wAt m c t) (wsAt m c t) (bAt m c t) (gAt m c t)

/-- What the two scratch buffers hold before point `n`: what the last sixteen points stored. -/
def ScrOK (c : Dev nD) (n : ℕ) (C : Vec F S2x1024x7168 .fp8e4m3) (D : Vec F S2x1024x128 .f32) : Prop :=
  ∀ p, p < n → n ≤ p + 16 →
    (∀ y : S2x1024x7168.Idx, (y 0).val = (p / 8) % 2 → (y 1).val / 128 = p % 8 → C y = codeT m c p ((y 1).val % 128) (y 2).val)
    ∧ (∀ y : S2x1024x128.Idx, (y 0).val = (p / 8) % 2 → (y 1).val / 128 = p % 8 → D y = scaleT m c p ((y 1).val % 128) (y 2).val)

/-- The scratch buffers as the body is handed them. -/
abbrev scr0 : Memref sig .tc .vmem S2x1024x7168 .fp8e4m3 := Memref.whole cc0_scratch0
@[inherit_doc scr0] abbrev scr1 : Memref sig .tc .vmem S2x1024x128 .f32 := Memref.whole cc0_scratch1

/-- The invariant before point `n`. -/
def Phi (c : Dev nD) (n : ℕ) : sProp 𝕄 :=
  iprop((∃ f g, ⌜ScrOK m c n (scr0.view.read (Elt F) f) (scr1.view.read (Elt F) g)⌝
    ∗ (scr0.view.loc (c : Thread nD τ) ↦[scr0.view.set]{fullShare} f) ∗ (scr1.view.loc (c : Thread nD τ) ↦[scr1.view.set]{fullShare} g))
    ∗ ∃ r, prngReg c r)

/-- The proof data: inputs left as found; the codes' and the scales' blocks at what the chunk gives; the product's block
    at `yT` past the first row of points. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun _ X => 8 ≤ t.val → ∀ y : S1024x1280.Idx, X y = yT m c t y
    | ⟨8, _⟩ => fun _ X => ∀ y : S128x7168.Idx, X y = codeT m c t.val (y 0).val (y 1).val
    | ⟨9, _⟩ => fun _ X => ∀ y : S1x1x128.Idx, X y = diagSum (xAt m c t) (sAt m c t) (hAt m c t) 3 y
  Φ n := Phi m c n.val
  q _ := fullShare
  owed _ := 0

theorem A_eq (c : Dev nD) (w : Fin cfg0.W) : (rdat m c).A w = V m c (Pipeline.arrRef spec0 w) := by
  dsimp only [rdat]

theorem finds_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, (rdat m c).after w t Y X → X = Y) (t : Fin cfg0.N)
    (Y : (cfg0.win w).block.Idx → Elt F (cfg0.win w).elt) (hY : (rdat m c).Finds w t Y) :
    ∃ d, Y = (cfg0.win w).fill (cfg0.grid.coords t) d (iblk m c w t) :=
  RDat.finds_in_eq_fetched (rdat m c) w hw hclip hkeep t Y hY

theorem finds0 (c : Dev nD) (t : Fin cfg0.N) (Y : S128x7168.Idx → Elt F .bf16) (h : (rdat m c).Finds 0 t Y) : Y = xAt m c t := by
  obtain ⟨d, hd⟩ := finds_in m c 0 rfl (fun _ _ _ => rfl) (fun _ _ _ h => h) t Y h
  exact hd.trans rfl
theorem finds1 (c : Dev nD) (t : Fin cfg0.N) (Y : S1x1x7168.Idx → Elt F .bf16) (h : (rdat m c).Finds 1 t Y) : Y = sAt m c t := by
  obtain ⟨d, hd⟩ := finds_in m c 1 rfl (fun _ _ _ => rfl) (fun _ _ _ h => h) t Y h
  exact hd.trans rfl
theorem finds2 (c : Dev nD) (t : Fin cfg0.N) (Y : S1x1x7168.Idx → Elt F .bf16) (h : (rdat m c).Finds 2 t Y) : Y = hAt m c t := by
  obtain ⟨d, hd⟩ := finds_in m c 2 rfl (fun _ _ _ => rfl) (fun _ _ _ h => h) t Y h
  exact hd.trans rfl
theorem finds3 (c : Dev nD) (t : Fin cfg0.N) (Y : S1x1x1280.Idx → Elt F .bf16) (h : (rdat m c).Finds 3 t Y) : Y = gAt m c t := by
  obtain ⟨d, hd⟩ := finds_in m c 3 rfl (fun _ _ _ => rfl) (fun _ _ _ h => h) t Y h
  exact hd.trans rfl
theorem finds4 (c : Dev nD) (t : Fin cfg0.N) (Y : S7168x1280.Idx → Elt F .fp8e4m3) (h : (rdat m c).Finds 4 t Y) : Y = wAt m c t := by
  obtain ⟨d, hd⟩ := finds_in m c 4 rfl (fun _ _ _ => rfl) (fun _ _ _ h => h) t Y h
  exact hd.trans rfl
theorem finds5 (c : Dev nD) (t : Fin cfg0.N) (Y : S1x1280.Idx → Elt F .f32) (h : (rdat m c).Finds 5 t Y) : Y = wsAt m c t := by
  obtain ⟨d, hd⟩ := finds_in m c 5 rfl (fun _ _ _ => rfl) (fun _ _ _ h => h) t Y h
  exact hd.trans rfl
theorem finds6 (c : Dev nD) (t : Fin cfg0.N) (Y : S1x1280.Idx → Elt F .bf16) (h : (rdat m c).Finds 6 t Y) : Y = bAt m c t := by
  obtain ⟨d, hd⟩ := finds_in m c 6 rfl (fun _ _ _ => rfl) (fun _ _ _ h => h) t Y h
  exact hd.trans rfl

/-- A point's stores into the scratch buffers keep what the last sixteen points stored. -/
theorem scr_step (c : Dev nD) (t : Fin cfg0.N) (C C' : Vec F S2x1024x7168 .fp8e4m3) (D D' : Vec F S2x1024x128 .f32) (h : ScrOK m c t.val C D)
    (hC : ∀ y : S2x1024x7168.Idx, C' y =
      if (y 0).val = ((grid0.coords t) 0).val % 2 ∧ 128 * ((grid0.coords t) 1).val ≤ (y 1).val ∧ (y 1).val < 128 * ((grid0.coords t) 1).val + 128 then
        codeAt (xAt m c t) (sAt m c t) (hAt m c t) ((y 1).val - 128 * ((grid0.coords t) 1).val) (y 2).val else C y)
    (hD : ∀ y : S2x1024x128.Idx, D' y =
      if (y 0).val = ((grid0.coords t) 0).val % 2 ∧ 128 * ((grid0.coords t) 1).val ≤ (y 1).val ∧ (y 1).val < 128 * ((grid0.coords t) 1).val + 128 then
        scaleAt (xAt m c t) (sAt m c t) (hAt m c t) ((y 1).val - 128 * ((grid0.coords t) 1).val) (y 2).val else D y) :
    ScrOK m c (t.val + 1) C' D' := by
  obtain ⟨e0, e1⟩ := coords_val t
  rw [e0, e1] at hC hD
  intro p hp hp'
  rcases Nat.lt_succ_iff_lt_or_eq.mp hp with hlt | rfl
  · obtain ⟨h1, h2⟩ := h p hlt (by omega)
    refine ⟨fun y hy0 hy1 => ?_, fun y hy0 hy1 => ?_⟩
    · rw [hC, if_neg (by omega)]; exact h1 y hy0 hy1
    · rw [hD, if_neg (by omega)]; exact h2 y hy0 hy1
  · refine ⟨fun y hy0 hy1 => ?_, fun y hy0 hy1 => ?_⟩
    · rw [hC, if_pos (by omega), show (y 1).val - 128 * (t.val % 8) = (y 1).val % 128 by omega]
      unfold codeT; rw [pt_val]
    · rw [hD, if_pos (by omega), show (y 1).val - 128 * (t.val % 8) = (y 1).val % 128 by omega]
      unfold scaleT; rw [pt_val]

/-- The slot the product reads holds the chunks of the row of points before. -/
theorem scr_slab (c : Dev nD) (t : Fin cfg0.N) (C : Vec F S2x1024x7168 .fp8e4m3) (D : Vec F S2x1024x128 .f32) (h : ScrOK m c t.val C D) (ht : 8 ≤ t.val) :
    slab (((grid0.coords t) 0).val + 1) C = slabT m c (8 * (t.val / 8 - 1)) ∧ slabS (((grid0.coords t) 0).val + 1) D = slabST m c (8 * (t.val / 8 - 1)) := by
  obtain ⟨e0, e1⟩ := coords_val t
  constructor
  · funext y
    have hy : (y 1).val < 1024 := (y 1).isLt
    refine (h (8 * (t.val / 8 - 1) + (y 1).val / 128) (by omega) (by omega)).1 _ ?_ ?_
    · show (((grid0.coords t) 0).val + 1) % 2 = _
      rw [e0]; omega
    · show (y 1).val / 128 = _
      omega
  · funext y
    have hy : (y 1).val < 1024 := (y 1).isLt
    refine (h (8 * (t.val / 8 - 1) + (y 1).val / 128) (by omega) (by omega)).2 _ ?_ ?_
    · show (((grid0.coords t) 0).val + 1) % 2 = _
      rw [e0]; omega
    · show (y 1).val / 128 = _
      omega

/-- The product is taken past the first row of points. -/
theorem cond3_of : ∀ t : Fin cfg0.N, 8 ≤ t.val → k0_cond3 (grid0.coords t) = 1#1 := by
  decide +kernel

theorem defs₀_row (t : Fin cfg0.N) :
    defs₀ (F := F) .tc cfg0.body (cfg0.bodyArgs t (cfg0.slots t)) = bodyAt0 t := by
  unfold defs₀; rw [Defs.onTc_tc]

/-- The body at a point, on the windows' blocks. -/
theorem body_pt (c : Dev nD) (t : Fin cfg0.N) (Y0 : S128x7168.Idx → Elt F .bf16) (Y1 Y2 : S1x1x7168.Idx → Elt F .bf16) (Y3 : S1x1x1280.Idx → Elt F .bf16)
    (Y4 : S7168x1280.Idx → Elt F .fp8e4m3) (Y5 : S1x1280.Idx → Elt F .f32) (Y6 : S1x1280.Idx → Elt F .bf16) (Y7 : S1024x1280.Idx → Elt F .bf16)
    (Y8 : S128x7168.Idx → Elt F .fp8e4m3) (Y9 : S1x1x128.Idx → Elt F .f32)
    (h0 : Y0 = xAt m c t) (h1 : Y1 = sAt m c t) (h2 : Y2 = hAt m c t) (h3 : Y3 = gAt m c t) (h4 : Y4 = wAt m c t) (h5 : Y5 = wsAt m c t) (h6 : Y6 = bAt m c t) :
    iprop((rdat m c).Φ t.castSucc ∗ (rdat m c).owesAt () t.castSucc
      ∗ (owns (c : Thread nD τ) (st0_0 t) fullShare Y0 ∗ owns (c : Thread nD τ) (st0_1 t) fullShare Y1 ∗ owns (c : Thread nD τ) (st0_2 t) fullShare Y2
      ∗ owns (c : Thread nD τ) (st0_3 t) fullShare Y3 ∗ owns (c : Thread nD τ) (st0_4 t) fullShare Y4 ∗ owns (c : Thread nD τ) (st0_5 t) fullShare Y5
      ∗ owns (c : Thread nD τ) (st0_6 t) fullShare Y6 ∗ owns (c : Thread nD τ) (st0_7 t) fullShare Y7 ∗ owns (c : Thread nD τ) (st0_8 t) fullShare Y8
      ∗ owns (c : Thread nD τ) (st0_9 t) fullShare Y9))
    ⊢ wp (M := 𝕄) frame (wpE (defs₀ (F := F)) Variants.none (c : Thread nD τ) none) Set.univ (bodyAt0 t) (fun _ =>
      iprop((rdat m c).Φ t.succ ∗ (rdat m c).owesAt () t.succ
      ∗ ((∃ X, ⌜(rdat m c).after 0 t Y0 X⌝ ∗ owns (c : Thread nD τ) (st0_0 t) fullShare X) ∗ (∃ X, ⌜(rdat m c).after 1 t Y1 X⌝ ∗ owns (c : Thread nD τ) (st0_1 t) fullShare X)
      ∗ (∃ X, ⌜(rdat m c).after 2 t Y2 X⌝ ∗ owns (c : Thread nD τ) (st0_2 t) fullShare X) ∗ (∃ X, ⌜(rdat m c).after 3 t Y3 X⌝ ∗ owns (c : Thread nD τ) (st0_3 t) fullShare X)
      ∗ (∃ X, ⌜(rdat m c).after 4 t Y4 X⌝ ∗ owns (c : Thread nD τ) (st0_4 t) fullShare X) ∗ (∃ X, ⌜(rdat m c).after 5 t Y5 X⌝ ∗ owns (c : Thread nD τ) (st0_5 t) fullShare X)
      ∗ (∃ X, ⌜(rdat m c).after 6 t Y6 X⌝ ∗ owns (c : Thread nD τ) (st0_6 t) fullShare X) ∗ (∃ X, ⌜(rdat m c).after 7 t Y7 X⌝ ∗ owns (c : Thread nD τ) (st0_7 t) fullShare X)
      ∗ (∃ X, ⌜(rdat m c).after 8 t Y8 X⌝ ∗ owns (c : Thread nD τ) (st0_8 t) fullShare X) ∗ (∃ X, ⌜(rdat m c).after 9 t Y9 X⌝ ∗ owns (c : Thread nD τ) (st0_9 t) fullShare X)))) := by
  rw [show (rdat m c).Φ t.castSucc = Phi m c t.val from rfl, show (rdat m c).Φ t.succ = Phi m c (t.val + 1) from rfl]
  unfold RDat.owesAt Pipeline.owesWithin Phi owns bodyAt0
  rw [show (rdat m c).owed t.castSucc = 0 from rfl, show (rdat m c).owed t.succ = 0 from rfl]
  iintro ⟨⟨⟨%f12, %f13, %hS, HS0, HS1⟩, Hg⟩, ⟨%W, -, HW⟩, ⟨%f0, %r0, H0⟩, ⟨%f1, %r1, H1⟩, ⟨%f2, %r2, H2⟩, ⟨%f3, %r3, H3⟩, ⟨%f4, %r4, H4⟩,
    ⟨%f5, %r5, H5⟩, ⟨%f6, %r6, H6⟩, ⟨%f7, %r7, H7⟩, ⟨%f8, %r8, H8⟩, ⟨%f9, %r9, H9⟩⟩
  iapply (wp_wand_r frame (wpE (defs₀ (F := F)) Variants.none (c : Thread nD τ) none) Set.univ)
  isplitl [H0 H1 H2 H3 H4 H5 H6 H7 H8 H9 HS0 HS1]
  · iapply (body_run c (grid0.coords t) _ _ _ _ _ _ _ _ _ _ _ _ _ _ _ _ _ _ _ _ _ _ _ _ f0 f1 f2 f3 f4 f5 f6 f12 f13)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists f7
      iexact H7
    isplitl [H8]
    · iexists f8
      iexact H8
    isplitl [H9]
    · iexists f9
      iexact H9
    isplitl [HS0]; · iexact HS0
    iexact HS1
  iintro %r ⟨H0, H1, H2, H3, H4, H5, H6, ⟨%g7, H7, %q7⟩, ⟨%g8, H8, %q8⟩, ⟨%g9, H9, %q9⟩, ⟨%g12, HS0, %q12⟩, ⟨%g13, HS1, %q13⟩⟩
  rw [show (st0_0 t).view.read (Elt F) f0 = xAt m c t from r0.trans h0, show (st0_1 t).view.read (Elt F) f1 = sAt m c t from r1.trans h1,
    show (st0_2 t).view.read (Elt F) f2 = hAt m c t from r2.trans h2] at q8 q9 q12 q13
  isplitl [HS0 HS1 Hg]
  · isplitl [HS0 HS1]
    · iexists g12; iexists g13
      isplitr
      · ipureintro
        exact scr_step m c t _ _ _ _ hS q12 q13
      isplitl [HS0]; · iexact HS0
      iexact HS1
    iexact Hg
  isplitl [HW]
  · iexists W; isplitr; · ipureintro; exact fun _ _ => Or.inl trivial
    iexact HW
  isplitl [H0]
  · iexists Y0; isplitr; · ipureintro; rfl
    iexists f0; isplitr; · ipureintro; exact r0
    iexact H0
  isplitl [H1]
  · iexists Y1; isplitr; · ipureintro; rfl
    iexists f1; isplitr; · ipureintro; exact r1
    iexact H1
  isplitl [H2]
  · iexists Y2; isplitr; · ipureintro; rfl
    iexists f2; isplitr; · ipureintro; exact r2
    iexact H2
  isplitl [H3]
  · iexists Y3; isplitr; · ipureintro; rfl
    iexists f3; isplitr; · ipureintro; exact r3
    iexact H3
  isplitl [H4]
  · iexists Y4; isplitr; · ipureintro; rfl
    iexists f4; isplitr; · ipureintro; exact r4
    iexact H4
  isplitl [H5]
  · iexists Y5; isplitr; · ipureintro; rfl
    iexists f5; isplitr; · ipureintro; exact r5
    iexact H5
  isplitl [H6]
  · iexists Y6; isplitr; · ipureintro; rfl
    iexists f6; isplitr; · ipureintro; exact r6
    iexact H6
  isplitl [H7]
  · iexists ((st0_7 t).view.read (Elt F) g7); isplitr
    · ipureintro
      intro ht y
      refine (q7 (cond3_of t ht) y).trans ?_
      obtain ⟨s1, s2⟩ := scr_slab m c t _ _ hS ht
      rw [s1, s2, show (st0_4 t).view.read (Elt F) f4 = wAt m c t from r4.trans h4, show (st0_5 t).view.read (Elt F) f5 = wsAt m c t from r5.trans h5,
        show (st0_6 t).view.read (Elt F) f6 = bAt m c t from r6.trans h6, show (st0_3 t).view.read (Elt F) f3 = gAt m c t from r3.trans h3]
      rfl
    iexists g7; isplitr; · ipureintro; rfl
    iexact H7
  isplitl [H8]
  · iexists ((st0_8 t).view.read (Elt F) g8); isplitr
    · ipureintro
      intro y
      refine (q8 y).trans ?_
      unfold codeT; rw [pt_val]
    iexists g8; isplitr; · ipureintro; rfl
    iexact H8
  iexists ((st0_9 t).view.read (Elt F) g9); isplitr
  · ipureintro
    exact fun y => congrFun q9 y
  iexists g9; isplitr; · ipureintro; rfl
  iexact H9

/-- One point of the grid keeps the invariant and leaves each window's block as the proof data say. -/
theorem body_obligation (c : Dev nD) : (rdat (F := F) m c).BodyObligation (defs₀ (F := F)) Variants.none () Set.univ := by
  intro t Y hY
  rw [bigSep_W0, bigSep_W0, defs₀_row]
  obtain ⟨e0, e1⟩ := coords_val t
  have y0 := finds0 m c t (Y 0) (hY 0)
  have y1 := finds1 m c t (Y 1) (hY 1)
  have y2 := finds2 m c t (Y 2) (hY 2)
  have y3 := finds3 m c t (Y 3) (hY 3)
  have y4 := finds4 m c t (Y 4) (hY 4)
  have y5 := finds5 m c t (Y 5) (hY 5)
  have y6 := finds6 m c t (Y 6) (hY 6)
  clear hY
  refine triple_restated (body_pt m c t (Y 0) (Y 1) (Y 2) (Y 3) (Y 4) (Y 5) (Y 6) (Y 7) (Y 8) (Y 9) y0 y1 y2 y3 y4 y5 y6) rfl .rfl fun _ => .rfl

/-- A whole scratch buffer, as the body holds it and as the launch hands it over. -/
theorem scr0_eq (c : Dev nD) (f : Buf (Elt F) ((c : Thread nD τ).loc cc0_scratch0)) :
    ((scr0.view.loc (c : Thread nD τ) ↦[scr0.view.set]{fullShare} f : sProp 𝕄)) = (((c : Thread nD τ).loc cc0_scratch0) ↦{fullShare} f) := by
  rw [show scr0.view.set = Finset.univ from View.set_whole _]
@[inherit_doc scr0_eq] theorem scr1_eq (c : Dev nD) (f : Buf (Elt F) ((c : Thread nD τ).loc cc0_scratch1)) :
    ((scr1.view.loc (c : Thread nD τ) ↦[scr1.view.set]{fullShare} f : sProp 𝕄)) = (((c : Thread nD τ).loc cc0_scratch1) ↦{fullShare} f) := by
  rw [show scr1.view.set = Finset.univ from View.set_whole _]

/-- Before the first point the scratch buffers may hold anything. -/
theorem hin (c : Dev nD) : (Pipeline.ΦA spec0 c : sProp 𝕄) ⊢ (rdat (F := F) m c).Φ 0 := by
  rw [show (rdat (F := F) m c).Φ 0 = Phi m c 0 from rfl]
  unfold Pipeline.ΦA Phi
  rw [scopedRest0_eq]
  iintro ⟨⟨⟨%f, H0⟩, ⟨%g, H1⟩⟩, Hg⟩
  isplitl [H0 H1]
  · iexists f; iexists g
    isplitr
    · ipureintro
      exact fun p hp => absurd hp (Nat.not_lt_zero _)
    rw [scr0_eq, scr1_eq]
    isplitl [H0]; · iexact H0
    iexact H1
  iexact Hg

/-- After the last point they are forgotten. -/
theorem hout (c : Dev nD) : (rdat (F := F) m c).Φ (Fin.last cfg0.N) ⊢ (Pipeline.ΦA spec0 c : sProp 𝕄) := by
  rw [show (rdat (F := F) m c).Φ (Fin.last cfg0.N) = Phi m c cfg0.N from rfl]
  unfold Pipeline.ΦA Phi
  rw [scopedRest0_eq]
  iintro ⟨⟨%f, %g, -, H0, H1⟩, Hg⟩
  isplitl [H0 H1]
  · isplitl [H0]
    · iexists f; rw [← scr0_eq]; iexact H0
    iexists g; rw [← scr1_eq]; iexact H1
  iexact Hg

theorem share_full (c : Dev nD) (w : Fin cfg0.W) : (rdat (F := F) m c).share w = fullShare := by
  unfold RDat.share
  split
  · rfl
  · rfl

set_option backward.isDefEq.respectTransparency.types false in
/-- The run: every array ends at something the proof data allow, every other buffer as the region found it, and every
    semaphore at zero. -/
theorem run_main : θ_run defs (onTc (τ := τ) (main (F := F))) (s₀ m ρ)
    (fun r => RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := share_full m) (howed := fun _ _ => rfl) (V := V m) (hmain := hmain m Variants.none)
    (hA := A_eq m) (hin := hin m) (hout := hout m) (hQ' := fun _ h => h)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (RDat.FramePost.arr_in h.1 c 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.KernelIdeal.Run
-- ==== Proof.Value.Spec.lean ====
module

public import Idealize.ShloMosaic.Lib.Pointwise

@[expose] public section

set_option maxRecDepth 16384
set_option maxHeartbeats 400000

noncomputable section

/-! What one row becomes, over the extended reals: the numbers that both programs are shown to compute. -/

namespace Cert.Rows

open Idealize.ShloMosaic

/-- A row's mean. -/
def mean (x : Fin 7168 → EReal) : EReal := (∑ k, x k) * (((1 / 7168 : ℝ)) : EReal)

/-- A row's variance. -/
def var (x : Fin 7168 → EReal) : EReal := (∑ k, (x k - mean x) * (x k - mean x)) * (((1 / 7168 : ℝ)) : EReal)

/-- The reciprocal of a row's deviation. -/
def rstd (x : Fin 7168 → EReal) : EReal := Ideal.rsqrt (var x + Ideal.ofBits .f32 0x358637BD#32)

/-- A row normalised, scaled and shifted. -/
def modulated (x s h : Fin 7168 → EReal) (l : Fin 7168) : EReal := (x l - mean x) * rstd x * (1 + s l) + h l

/-- The largest absolute value of the modulated row, over the largest code. -/
def top (x s h : Fin 7168 → EReal) : EReal :=
  Finset.fold max (Ideal.ofBits .f32 0xFF800000#32) (fun l => FloatOps.absf (F := Ideal) (φ := .f32) (modulated x s h l)) Finset.univ
    * Ideal.ofBits .f32 0x3B124925#32

/-- A power of two. -/
def p2 (z : ℤ) : EReal := (((2 : ℝ) ^ z : ℝ) : EReal)

/-- The least power of two above `v` where `v` is in the range of the exponents, one elsewhere. -/
def scale (v : EReal) : EReal :=
  if Ideal.ofBits .f32 0x00800000#32 ≤ v ∧ v < Ideal.ofBits .f32 0x7E800000#32 then
    Finset.fold min (Ideal.ofBits .f32 0x7F800000#32)
      (fun j : Fin 252 => if v < p2 ((j.val : ℤ) - 125) then p2 ((j.val : ℤ) - 125) else Ideal.ofBits .f32 0x7F800000#32) Finset.univ
  else 1

/-- A row's scale. -/
def rowScale (x s h : Fin 7168 → EReal) : EReal := scale (top x s h)

/-- A row's code at a column. -/
def code (x s h : Fin 7168 → EReal) (l : Fin 7168) : EReal :=
  min (Ideal.ofBits .f32 0x43E00000#32) (max (Ideal.ofBits .f32 0xC3E00000#32) (modulated x s h l * Ideal.div 1 (rowScale x s h)))

/-- A row's product with a column of weights, after the scales, the bias and the gate. -/
def out (x s h : Fin 7168 → EReal) (w : Fin 7168 → EReal) (ws b g : EReal) : EReal :=
  ((∑ k, code x s h k * w k) * rowScale x s h * ws + b) * g

end Cert.Rows
-- ==== Proof.Value.Scale.lean ====
module

public import proofs.«01_k».proof.Proof.Value.Spec

@[expose] public section

set_option maxRecDepth 16384
set_option maxHeartbeats 400000

noncomputable section

namespace Cert.Rows

open Idealize.ShloMosaic Idealize.ShloMosaic.TcCoe Idealize.ShloMosaic.Tactic

/-- The bits of an exponent field alone. -/
theorem shift_bits : ∀ k : Fin 255, ((BitVec.ofNat 32 k.val <<< 23).extractLsb' 31 1 == 1#1) = false
    ∧ ((BitVec.ofNat 32 k.val <<< 23).extractLsb' 23 8).toNat = k.val ∧ ((BitVec.ofNat 32 k.val <<< 23).extractLsb' 0 23).toNat = 0 := by
  decide +kernel

/-- An exponent field alone denotes a power of two. -/
theorem ofBits_shift (k : ℕ) (h1 : 1 ≤ k) (h2 : k ≤ 254) : Ideal.ofBits .f32 (BitVec.ofNat 32 k <<< 23) = p2 ((k : ℤ) - 127) := by
  obtain ⟨e1, e2, e3⟩ := shift_bits ⟨k, by omega⟩
  dsimp only at e1 e2 e3
  unfold Ideal.ofBits Ideal.ieee p2
  dsimp only
  simp only [Nat.reduceAdd]
  rw [e1, e2, e3]
  rw [if_neg (by omega), if_neg (by omega), EReal.coe_eq_coe_iff]
  have e : (k : ℤ) - 127 = 23 + ((k : ℤ) - 127 - 23) := by ring
  have e23 : (2 : ℝ) ^ (23 : ℤ) = 8388608 := by norm_num
  rw [e, zpow_add₀ (two_ne_zero), e23]
  have c1 : ((if false = true then (-1 : ℝ) else 1) * ((2 ^ 23 + 0 : ℕ) : ℝ)) = 8388608 := by norm_num
  have c2 : (k : ℤ) - (2 ^ (8 - 1) - 1) - ((23 : ℕ) : ℤ) = (k : ℤ) - 127 - 23 := by norm_num
  rw [c1, c2]

theorem p2_le {a b : ℤ} (h : a ≤ b) : p2 a ≤ p2 b := EReal.coe_le_coe_iff.2 (zpow_le_zpow_right₀ (by norm_num) h)
theorem p2_lt {a b : ℤ} (h : a < b) : p2 a < p2 b := EReal.coe_lt_coe_iff.2 (zpow_lt_zpow_right₀ (by norm_num) h)

theorem lo_eq : Ideal.ofBits .f32 0x00800000#32 = p2 (-126) := (ofBits_shift 1 (by norm_num) (by norm_num))
theorem hi_eq : Ideal.ofBits .f32 0x7E800000#32 = p2 126 := (ofBits_shift 253 (by norm_num) (by norm_num))
theorem inf_eq : Ideal.ofBits .f32 0x7F800000#32 = ⊤ := by simp [Ideal.ofBits, Ideal.ieee]

theorem p2_zero : p2 0 = 1 := by simp [p2]

/-- Inside the range of the exponents a number lies between two neighbouring powers of two. -/
theorem exists_exponent (v : EReal) (h1 : p2 (-126) ≤ v) (h2 : v < p2 126) : ∃ n : ℕ, 1 ≤ n ∧ n ≤ 252 ∧ p2 ((n : ℤ) - 127) ≤ v ∧ v < p2 ((n : ℤ) - 126) := by
  induction v with
  | bot => exact absurd h1 (by simp [p2])
  | top => exact absurd h2 (by simp)
  | coe x =>
    unfold p2 at *
    rw [EReal.coe_le_coe_iff] at h1
    rw [EReal.coe_lt_coe_iff] at h2
    have hx : 0 < x := lt_of_lt_of_le (by positivity) h1
    obtain ⟨z, hz1, hz2⟩ := exists_mem_Ico_zpow hx (one_lt_two)
    have a1 : -126 < z + 1 := (zpow_lt_zpow_iff_right₀ (one_lt_two)).1 (lt_of_le_of_lt h1 hz2)
    have a2 : z < 126 := (zpow_lt_zpow_iff_right₀ (one_lt_two)).1 (lt_of_le_of_lt hz1 h2)
    refine ⟨(z + 127).toNat, by omega, by omega, ?_, ?_⟩
    · rw [EReal.coe_le_coe_iff, show (((z + 127).toNat : ℤ) - 127) = z by omega]; exact hz1
    · rw [EReal.coe_lt_coe_iff, show (((z + 127).toNat : ℤ) - 126) = z + 1 by omega]; exact hz2

/-- The scale between two neighbouring powers of two is the larger. -/
theorem scale_of (v : EReal) (n : ℕ) (h1 : 1 ≤ n) (h2 : n ≤ 252) (h3 : p2 ((n : ℤ) - 127) ≤ v) (h4 : v < p2 ((n : ℤ) - 126)) : scale v = p2 ((n : ℤ) - 126) := by
  unfold scale
  rw [lo_eq, hi_eq, if_pos ⟨le_trans (p2_le (by omega)) h3, lt_of_lt_of_le h4 (p2_le (by omega))⟩, inf_eq]
  apply le_antisymm
  · rw [Finset.fold_min_le]
    refine Or.inr ⟨⟨n - 1, by omega⟩, Finset.mem_univ _, ?_⟩
    have e : (((⟨n - 1, by omega⟩ : Fin 252).val : ℤ) - 125) = (n : ℤ) - 126 := by dsimp only; omega
    rw [e, if_pos h4]
  · rw [Finset.le_fold_min]
    refine ⟨le_top, fun j _ => ?_⟩
    split
    · rename_i h
      refine p2_le ?_
      by_contra hc
      exact absurd (lt_of_le_of_lt h3 h) (not_lt.2 (p2_le (by omega)))
    · exact le_top

theorem scale_low (v : EReal) (h : v < p2 (-126)) : scale v = 1 := by
  unfold scale
  rw [lo_eq, if_neg (fun hc => absurd h (not_lt.2 hc.1))]

theorem scale_high (v : EReal) (h : p2 126 ≤ v) : scale v = 1 := by
  unfold scale
  rw [hi_eq, if_neg (fun hc => absurd hc.2 (not_lt.2 h))]

/-- Whether `v` reaches threshold `k`. -/
def reaches (v : EReal) (k : Fin 256) : BitVec 1 :=
  IntOp.andi (IntOp.cmpi CmpIPredicate.sgt (BitVec.ofNat 32 k.val) 0#32)
    (BitVec.ofBool (decide (Ideal.ofBits FTy.f32 (IntOp.shli ArithUnit.vector (IntOp.minsi (BitVec.ofNat 32 k.val) 253#32) 23#32) ≤ v)))

/-- The number of thresholds reached, out of their tests. -/
def countOf (f : Fin 256 → BitVec 1) : BitVec 32 :=
  Finset.fold IntOp.addi (0#32) (fun x => Scalar.select (f x) 1#32 0#32) Finset.univ

/-- The exponent, out of the number of thresholds reached. -/
def expOf (c : BitVec 32) : BitVec 32 :=
  Scalar.select (IntOp.andi (IntOp.cmpi CmpIPredicate.ne c 0#32) (IntOp.cmpi CmpIPredicate.ne c 255#32)) (IntOp.subi c 126#32) 0#32

theorem min_shift : ∀ k : Fin 256, 0 < k.val → IntOp.shli ArithUnit.vector (IntOp.minsi (BitVec.ofNat 32 k.val) 253#32) 23#32 = BitVec.ofNat 32 (min k.val 253) <<< 23 := by
  decide +kernel
theorem pos_word : ∀ k : Fin 256, IntOp.cmpi CmpIPredicate.sgt (BitVec.ofNat 32 k.val) 0#32 = BitVec.ofBool (decide (0 < k.val)) := by
  decide +kernel
theorem andi_ofBool : ∀ a b : Bool, IntOp.andi (BitVec.ofBool a) (BitVec.ofBool b) = BitVec.ofBool (a && b) := by decide

/-- Threshold `k` is a power of two. -/
theorem reaches_eq (v : EReal) (k : Fin 256) : reaches v k = BitVec.ofBool (decide (0 < k.val ∧ p2 ((min k.val 253 : ℕ) - 127) ≤ v)) := by
  unfold reaches
  rw [pos_word, andi_ofBool]
  by_cases h : 0 < k.val
  · rw [min_shift k h, ofBits_shift _ (by omega) (by omega)]
    simp [h]
  · simp [h]

theorem count_upto : ∀ n : Fin 256, countOf (fun k => BitVec.ofBool (decide (0 < k.val ∧ k.val ≤ n.val))) = BitVec.ofNat 32 n.val := by
  unfold countOf
  decide +kernel

theorem exp_word : ∀ n : Fin 253, 1 ≤ n.val → IntOp.shli ArithUnit.vector (IntOp.addi (expOf (BitVec.ofNat 32 n.val)) 127#32) 23#32 = BitVec.ofNat 32 (n.val + 1) <<< 23
    ∧ IntOp.shli ArithUnit.vector (IntOp.addi (IntOp.subi (0#32) (expOf (BitVec.ofNat 32 n.val))) 127#32) 23#32 = BitVec.ofNat 32 (253 - n.val) <<< 23 := by
  decide +kernel

theorem div_p2 (z : ℤ) : Ideal.div 1 (p2 z) = p2 (-z) := by
  unfold p2
  rw [Ideal.div_coe (by positivity), one_mul, zpow_neg, one_div]

theorem count_of (v : EReal) (n : ℕ) (hn : n < 256) (h : ∀ k : Fin 256, (0 < k.val ∧ p2 ((min k.val 253 : ℕ) - 127) ≤ v) ↔ (0 < k.val ∧ k.val ≤ n)) :
    countOf (reaches v) = BitVec.ofNat 32 n := by
  rw [← count_upto ⟨n, hn⟩]
  congr 1
  funext k
  rw [reaches_eq]
  congr 1
  exact decide_eq_decide.2 (h k)

/-- The scale and its inverse, built from the exponent that the thresholds count. -/
theorem scale_words (v : EReal) :
    Ideal.ofBits FTy.f32 (IntOp.shli ArithUnit.vector (IntOp.addi (expOf (countOf (reaches v))) 127#32) 23#32) = scale v
    ∧ Ideal.ofBits FTy.f32 (IntOp.shli ArithUnit.vector (IntOp.addi (IntOp.subi (0#32) (expOf (countOf (reaches v)))) 127#32) 23#32) = Ideal.div 1 (scale v) := by
  have one : Ideal.ofBits FTy.f32 (BitVec.ofNat 32 127 <<< 23) = 1 := by
    rw [ofBits_shift 127 (by norm_num) (by norm_num)]; exact p2_zero
  have d1 : Ideal.div 1 1 = 1 := by
    have h := div_p2 0
    rw [neg_zero, p2_zero] at h
    exact h
  rcases lt_or_ge v (p2 (-126)) with hl | hl
  · rw [count_of v 0 (by norm_num) (fun k => ⟨fun ⟨a, b⟩ => absurd (lt_of_le_of_lt b hl) (not_lt.2 (p2_le (by omega))), fun ⟨a, b⟩ => by omega⟩), scale_low v hl, d1]
    exact ⟨one, one⟩
  rcases lt_or_ge v (p2 126) with hh | hh
  · obtain ⟨n, n1, n2, n3, n4⟩ := exists_exponent v hl hh
    rw [count_of v n (by omega) (fun k => ⟨fun ⟨a, b⟩ => ⟨a, by
      by_contra hc
      exact absurd (lt_of_le_of_lt b n4) (not_lt.2 (p2_le (by omega)))⟩, fun ⟨a, b⟩ => ⟨a, le_trans (p2_le (by omega)) n3⟩⟩), scale_of v n n1 n2 n3 n4, div_p2]
    obtain ⟨w1, w2⟩ := exp_word ⟨n, by omega⟩ n1
    dsimp only at w1 w2
    rw [w1, w2, ofBits_shift _ (by omega) (by omega), ofBits_shift _ (by omega) (by omega)]
    exact ⟨congrArg p2 (by omega), congrArg p2 (by omega)⟩
  · rw [count_of v 255 (by norm_num) (fun k => ⟨fun ⟨a, b⟩ => ⟨a, by omega⟩, fun ⟨a, b⟩ => ⟨a, le_trans (p2_le (by omega)) hh⟩⟩), scale_high v hh, d1]
    exact ⟨one, one⟩

/-- Division by the row's length is multiplication by its reciprocal. -/
theorem div_len (x : EReal) : Ideal.div x (Ideal.ofBits FTy.f32 0x45E00000#32) = x * ((1 / 7168 : ℝ) : EReal) := by
  have h : Ideal.ofBits FTy.f32 0x45E00000#32 = ((7168 : ℝ) : EReal) := by
    simp [Ideal.ofBits, Ideal.ieee, -EReal.coe_mul]; norm_num
  rw [h, Ideal.div_coe (by norm_num)]

/-- The powers of two that the least is taken of. -/
theorem exp2_power (j : Fin 252) : FloatOps.exp2 (F := Ideal) (φ := .f32) (FloatOps.sitofp (F := Ideal) FTy.f32 (BitVec.ofNat 32 j.val) - Ideal.ofBits FTy.f32 0x42FA0000#32) = p2 ((j.val : ℤ) - 125) := by
  have h : Ideal.ofBits FTy.f32 0x42FA0000#32 = ((125 : ℝ) : EReal) := by
    simp [Ideal.ofBits, Ideal.ieee, -EReal.coe_mul]; norm_num
  have e : (BitVec.ofNat 32 j.val).toInt = (j.val : ℤ) := by
    rw [BitVec.toInt_ofNat']
    exact Int.bmod_eq_of_le (by have := j.isLt; omega) (by have := j.isLt; omega)
  have e2 : FloatOps.sitofp (F := Ideal) FTy.f32 (BitVec.ofNat 32 j.val) = (((j.val : ℤ) : ℝ) : EReal) := by
    rw [← e]; rfl
  rw [h, e2, ← EReal.coe_sub]
  show Ideal.exp2 _ = _
  rw [Ideal.exp2_coe]
  unfold p2
  congr 1
  show (2 : ℝ) ^ ((((j.val : ℤ) : ℝ)) - 125 : ℝ) = _
  rw [← Real.rpow_intCast]
  congr 1
  push_cast; ring

end Cert.Rows
-- ==== Proof.Value.KernelCells.lean ====
module

public import proofs.«01_k».proof.Proof.KernelIdeal.Run
public import proofs.«01_k».proof.Proof.Value.Scale
public import Idealize.ShloMosaic.Lib.Pointwise

@[expose] public section

set_option maxRecDepth 16384
set_option maxHeartbeats 400000

noncomputable section

namespace Cert.KernelIdeal.Val

open Cert.KernelIdeal Cert.KernelIdeal.Gen Cert.KernelIdeal.Run
open Idealize.ShloMosaic Idealize.ShloMosaic.TcCoe Idealize.ShloMosaic.Tactic

/-- The named reciprocal of the row's length. -/
theorem inv_d : (Named.named (F := Ideal) κ "inv_d" (φ := .f32) 0x39124925#32) = ((1 / 7168 : ℝ) : EReal) := by
  simp [Named.named, κ]

/-- A block of columns as a total's start. -/
theorem pay8_apply (v : Vec Ideal S32x128 .bf16) (a : Fin 32) (b : Fin 128) : k0_pay8 (F := Ideal) v (ix2 a b) = v (ix2 a b) := by
  pointwise [k0_pay8]
/-- A total and one more block. -/
theorem pay9_apply (u : FVec Ideal S32x128 .f32) (v : Vec Ideal S32x128 .bf16) (a : Fin 32) (b : Fin 128) : k0_pay9 (F := Ideal) u v (ix2 a b) = u (ix2 a b) + v (ix2 a b) := by
  pointwise [k0_pay9]
/-- The mean from the total. -/
theorem pay10_apply (u : FVec Ideal S32x128 .f32) (a : Fin 32) : k0_pay10 (F := Ideal) u (ix2 a 0) = (∑ x, u (ix2 a x)) * ((1 / 7168 : ℝ) : EReal) := by
  pointwise [k0_pay10]
  rw [inv_d]
/-- A block's squared deviations. -/
theorem pay11_apply (u : FVec Ideal S32x128 .f32) (v : Vec Ideal S32x128 .bf16) (a : Fin 32) (b : Fin 128) : k0_pay11 (F := Ideal) u v (ix2 a b) =
    (v (ix2 a b) - k0_pay10 (F := Ideal) u (ix2 a 0)) * (v (ix2 a b) - k0_pay10 (F := Ideal) u (ix2 a 0)) := by
  unfold k0_pay11
  generalize k0_pay10 (F := Ideal) u = p
  pointwise []
/-- Squared deviations and one more block's. -/
theorem pay12_apply (u w : FVec Ideal S32x128 .f32) (v : Vec Ideal S32x128 .bf16) (a : Fin 32) (b : Fin 128) : k0_pay12 (F := Ideal) u w v (ix2 a b) =
    w (ix2 a b) + (v (ix2 a b) - k0_pay10 (F := Ideal) u (ix2 a 0)) * (v (ix2 a b) - k0_pay10 (F := Ideal) u (ix2 a 0)) := by
  unfold k0_pay12
  generalize k0_pay10 (F := Ideal) u = p
  pointwise []
/-- The reciprocal of the deviation. -/
theorem pay13_apply (u : FVec Ideal S32x128 .f32) (a : Fin 32) : k0_pay13 (F := Ideal) u (ix2 a 0) =
    Ideal.rsqrt ((∑ x, u (ix2 a x)) * ((1 / 7168 : ℝ) : EReal) + Ideal.ofBits FTy.f32 0x358637BD#32) := by
  pointwise [k0_pay13]
  rw [inv_d]
/-- A block normalised. -/
theorem pay14_apply (u w : FVec Ideal S32x128 .f32) (v : Vec Ideal S32x128 .bf16) (a : Fin 32) (b : Fin 128) : k0_pay14 (F := Ideal) u w v (ix2 a b) =
    (v (ix2 a b) - k0_pay10 (F := Ideal) u (ix2 a 0)) * k0_pay13 (F := Ideal) w (ix2 a 0) := by
  unfold k0_pay14
  generalize k0_pay10 (F := Ideal) u = p
  generalize k0_pay13 (F := Ideal) w = q
  pointwise []
/-- A block modulated, in absolute value. -/
theorem pay15_apply (u : FVec Ideal S32x128 .f32) (s h : Vec Ideal S1x128 .bf16) (a : Fin 32) (b : Fin 128) : k0_pay15 (F := Ideal) u s h (ix2 a b) =
    FloatOps.absf (F := Ideal) (φ := .f32) (u (ix2 a b) * (1 + s (ix2 0 b)) + h (ix2 0 b)) := by
  pointwise [k0_pay15]
/-- A maximum and one more block. -/
theorem pay16_apply (p q : FVec Ideal S32x1 .f32) (u : FVec Ideal S32x128 .f32) (v : Vec Ideal S32x128 .bf16) (s h : Vec Ideal S1x128 .bf16) (a : Fin 32) (b : Fin 128) : k0_pay16 (F := Ideal) p q u v s h (ix2 a b) =
    max (u (ix2 a b)) (FloatOps.absf (F := Ideal) (φ := .f32) ((v (ix2 a b) - p (ix2 a 0)) * q (ix2 a 0) * (1 + s (ix2 0 b)) + h (ix2 0 b))) := by
  pointwise [k0_pay16]
/-- A block's codes. -/
theorem pay6_apply (p q w : FVec Ideal S32x1 .f32) (v : Vec Ideal S32x128 .bf16) (s h : Vec Ideal S1x128 .bf16) (a : Fin 32) (b : Fin 128) : k0_pay6 (F := Ideal) p q w v s h (ix2 a b) =
    min (Ideal.ofBits FTy.f32 0x43E00000#32) (max (Ideal.ofBits FTy.f32 0xC3E00000#32) (((v (ix2 a b) - p (ix2 a 0)) * q (ix2 a 0) * (1 + s (ix2 0 b)) + h (ix2 0 b)) * w (ix2 a 0))) := by
  pointwise [k0_pay6]
/-- The tests of a row against the thresholds. -/
theorem pay17_apply (u : FVec Ideal S32x128 .f32) (a : Fin 32) (k : Fin 256) : k0_pay17 (F := Ideal) u (ix2 a k) =
    Rows.reaches (Finset.fold max (Ideal.ofBits FTy.f32 0xFF800000#32) (fun x => u (ix2 a x)) Finset.univ * Ideal.ofBits FTy.f32 0x3B124925#32) k := by
  unfold Rows.reaches
  pointwise [k0_pay17]
/-- The exponent out of a row's tests. -/
theorem pay20_apply (u : IVec S32x256 1) (a : Fin 32) : k0_pay20 u k0_pay18 k0_pay19 (ix2 a 0) = Rows.expOf (Rows.countOf fun x => u (ix2 a x)) := by
  unfold Rows.expOf Rows.countOf
  pointwise [k0_pay20, k0_pay18, k0_pay19]
/-- The inverse scale out of the exponent. -/
theorem pay21_apply (u : IVec S32x256 1) (v w : IVec S32x256 32) (a : Fin 32) : k0_pay21 (F := Ideal) u v w (ix2 a 0) =
    Ideal.ofBits FTy.f32 (IntOp.shli ArithUnit.vector (IntOp.addi (IntOp.subi (0#32) (k0_pay20 u v w (ix2 a 0))) 127#32) 23#32) := by
  unfold k0_pay21
  generalize k0_pay20 u v w = p
  pointwise []
/-- The scale out of the exponent. -/
theorem pay22_apply (u : IVec S32x256 1) (v w : IVec S32x256 32) (a : Fin 32) (b : Fin 128) : k0_pay22 (F := Ideal) u v w (ix2 a b) =
    Ideal.ofBits FTy.f32 (IntOp.shli ArithUnit.vector (IntOp.addi (k0_pay20 u v w (ix2 a 0)) 127#32) 23#32) := by
  unfold k0_pay22
  generalize k0_pay20 u v w = p
  pointwise []
/-- The scales on the diagonal of their chunk. -/
theorem pay24_apply (v7 : BitVec 32) (u : IVec S32x256 1) (v w : IVec S32x256 32) (a : Fin 32) (b : Fin 128) : k0_pay24 (F := Ideal) v7 u v w (ix2 a b) =
    Scalar.select (IntOp.cmpi CmpIPredicate.eq (IntOp.addi (BitVec.ofNat 32 a.val) v7) (BitVec.ofNat 32 b.val)) (k0_pay22 (F := Ideal) u v w (ix2 a b)) (0 : EReal) := by
  unfold k0_pay24
  generalize k0_pay22 (F := Ideal) u v w = p
  pointwise []
/-- The first group's sum down the rows. -/
theorem pay2_apply (u : FVec Ideal S32x128 .f32) (b : Fin 128) : k0_pay2 (F := Ideal) u (ix3 0 0 b) = ∑ a : Fin 32, u (ix2 a b) := by
  pointwise [k0_pay2, k0_pay1]
/-- A further group's sum, added. -/
theorem pay3_apply (u : FVec Ideal S32x128 .f32) (z : Vec Ideal S1x1x128 .f32) (b : Fin 128) : k0_pay3 (F := Ideal) u z (ix3 0 0 b) = z (ix3 0 0 b) + ∑ a : Fin 32, u (ix2 a b) := by
  pointwise [k0_pay3, k0_pay1]
/-- The product of a slab of codes with the weights. -/
theorem pay25_apply (v7 : Vec Ideal S1x1024x7168 .fp8e4m3) (v9 : Vec Ideal S7168x1280 .fp8e4m3) (r : Fin 1024) (n : Fin 1280) :
   k0_pay25 (F := Ideal) v7 v9 (ix2 r n) = ∑ k : Fin 7168, v7 (ix3 0 r k) * v9 (ix2 k n) := by
  pointwise [k0_pay25]
/-- A slab of scales, its leading axis dropped. -/
theorem pay26_apply (v : Vec Ideal S1x1024x128 .f32) (r : Fin 1024) (n : Fin 128) :
   k0_pay26 (F := Ideal) v (ix2 r n) = v (ix3 0 r n) := by
  pointwise [k0_pay26]

/-- A row of a chunk. -/
def crow (B : Vec Ideal S128x7168 .bf16) (r : ℕ) : Fin 7168 → EReal := fun l => B (ix2 ⟨r % 128, Nat.mod_lt _ (by decide)⟩ l)
/-- A batch's row of scales or shifts. -/
def srow (S : Vec Ideal S1x1x7168 .bf16) : Fin 7168 → EReal := fun l => S (ix3 0 0 l)
/-- Column `b` of block `k`. -/
def col (k : ℕ) (b : Fin 128) : Fin 7168 := ⟨(128 * k + b.val) % 7168, Nat.mod_lt _ (by decide)⟩

/-- A sum over the lanes of the sums over the blocks is the sum over the columns. -/
theorem sum_blocks (f : Fin 7168 → EReal) : (∑ b : Fin 128, ∑ k ∈ Finset.range 56, f (col k b)) = ∑ l, f l := by
  rw [Finset.sum_comm, Finset.sum_range, ← Finset.sum_product']
  refine Finset.sum_bij' (fun p _ => col p.1.val p.2) (fun l _ => (⟨l.val / 128, by omega⟩, ⟨l.val % 128, Nat.mod_lt _ (by decide)⟩)) ?_ ?_ ?_ ?_ ?_
  · intros; exact Finset.mem_univ _
  · intros; exact Finset.mem_univ _
  · rintro ⟨k, b⟩ _
    unfold col
    refine Prod.ext (Fin.ext ?_) (Fin.ext ?_) <;> dsimp only <;> omega
  · intro l _
    unfold col
    refine Fin.ext ?_
    dsimp only; omega
  · intros; rfl

/-- Every column lies in a block. -/
theorem col_surj (l : Fin 7168) : ∃ k, k ≤ 55 ∧ ∃ b, col k b = l :=
  ⟨l.val / 128, by omega, ⟨l.val % 128, Nat.mod_lt _ (by decide)⟩, by unfold col; refine Fin.ext ?_; dsimp only; omega⟩

/-- A running total of blocks is their sum. -/
theorem totFrom_apply (B : Vec Ideal S128x7168 .bf16) (g k : ℕ) (a : Fin 32) (b : Fin 128) :
    totFrom (k0_pay8 (F := Ideal) (blk B g 0)) B g k (ix2 a b) = ∑ i ∈ Finset.range (k + 1), crow B (32 * g + a.val) (col i b) := by
  induction k with
  | zero => rw [Finset.sum_range_one]; exact pay8_apply _ a b
  | succ k ih =>
    rw [Finset.sum_range_succ, ← ih]
    exact pay9_apply _ _ a b

/-- A row's mean. -/
theorem mean_apply (B : Vec Ideal S128x7168 .bf16) (g : ℕ) (a : Fin 32) : k0_pay10 (F := Ideal) (tot B g) (ix2 a 0) = Rows.mean (crow B (32 * g + a.val)) := by
  rw [pay10_apply]
  unfold Rows.mean tot
  simp only [totFrom_apply]
  rw [sum_blocks]

/-- A running sum of squared deviations is their sum. -/
theorem sqFrom_apply (u : FVec Ideal S32x128 .f32) (B : Vec Ideal S128x7168 .bf16) (g k : ℕ) (a : Fin 32) (b : Fin 128) :
    sqFrom u (k0_pay11 (F := Ideal) u (blk B g 0)) B g k (ix2 a b) =
      ∑ i ∈ Finset.range (k + 1), (crow B (32 * g + a.val) (col i b) - k0_pay10 (F := Ideal) u (ix2 a 0)) * (crow B (32 * g + a.val) (col i b) - k0_pay10 (F := Ideal) u (ix2 a 0)) := by
  induction k with
  | zero => rw [Finset.sum_range_one]; exact pay11_apply _ _ a b
  | succ k ih =>
    rw [Finset.sum_range_succ, ← ih]
    exact pay12_apply _ _ _ a b

/-- The reciprocal of a row's deviation. -/
theorem rstd_apply (B : Vec Ideal S128x7168 .bf16) (g : ℕ) (a : Fin 32) : k0_pay13 (F := Ideal) (Run.sq B g) (ix2 a 0) = Rows.rstd (crow B (32 * g + a.val)) := by
  rw [pay13_apply]
  unfold Rows.rstd Rows.var Run.sq
  simp only [sqFrom_apply, mean_apply]
  rw [sum_blocks (fun l => (crow B (32 * g + a.val) l - Rows.mean (crow B (32 * g + a.val))) * (crow B (32 * g + a.val) l - Rows.mean (crow B (32 * g + a.val))))]

/-- The modulated row in absolute value. -/
def amod (B : Vec Ideal S128x7168 .bf16) (S H : Vec Ideal S1x1x7168 .bf16) (r : ℕ) (l : Fin 7168) : EReal :=
  FloatOps.absf (F := Ideal) (φ := .f32) (Rows.modulated (crow B r) (srow S) (srow H) l)

/-- A running maximum lies below what all its blocks lie below. -/
theorem maxFrom_le (B : Vec Ideal S128x7168 .bf16) (S H : Vec Ideal S1x1x7168 .bf16) (g k : ℕ) (a : Fin 32) (b : Fin 128) (z : EReal) :
    maxFrom (k0_pay10 (F := Ideal) (tot B g)) (k0_pay13 (Run.sq B g)) (k0_pay15 (k0_pay14 (tot B g) (Run.sq B g) (blk B g 0)) (rowBlk S 0) (rowBlk H 0)) B S H g k (ix2 a b) ≤ z
      ↔ ∀ i ≤ k, amod B S H (32 * g + a.val) (col i b) ≤ z := by
  induction k with
  | zero =>
    have e : k0_pay15 (F := Ideal) (k0_pay14 (tot B g) (Run.sq B g) (blk B g 0)) (rowBlk S 0) (rowBlk H 0) (ix2 a b) = amod B S H (32 * g + a.val) (col 0 b) := by
      rw [pay15_apply, pay14_apply, mean_apply, rstd_apply]
      rfl
    constructor
    · intro h i hi
      obtain rfl : i = 0 := by omega
      rw [← e]; exact h
    · intro h
      have := h 0 le_rfl
      rw [← e] at this; exact this
  | succ k ih =>
    have e : maxFrom (k0_pay10 (F := Ideal) (tot B g)) (k0_pay13 (Run.sq B g)) (k0_pay15 (k0_pay14 (tot B g) (Run.sq B g) (blk B g 0)) (rowBlk S 0) (rowBlk H 0)) B S H g (k + 1) (ix2 a b)
        = max (maxFrom (k0_pay10 (F := Ideal) (tot B g)) (k0_pay13 (Run.sq B g)) (k0_pay15 (k0_pay14 (tot B g) (Run.sq B g) (blk B g 0)) (rowBlk S 0) (rowBlk H 0)) B S H g k (ix2 a b))
          (amod B S H (32 * g + a.val) (col (k + 1) b)) := by
      refine (pay16_apply _ _ _ _ _ _ a b).trans ?_
      rw [mean_apply, rstd_apply]
      rfl
    rw [e, max_le_iff, ih]
    constructor
    · rintro ⟨h1, h2⟩ i hi
      rcases Nat.lt_or_ge k i with h | h
      · obtain rfl : i = k + 1 := by omega
        exact h2
      · exact h1 i h
    · intro h
      exact ⟨fun i hi => h i (by omega), h _ le_rfl⟩

/-- The largest over the lanes of the running maxima is the largest over the row. -/
theorem max_apply (B : Vec Ideal S128x7168 .bf16) (S H : Vec Ideal S1x1x7168 .bf16) (g : ℕ) (a : Fin 32) (z : EReal) :
    Finset.fold max z (fun x => mx B S H g (ix2 a x)) Finset.univ = Finset.fold max z (fun l => amod B S H (32 * g + a.val) l) Finset.univ := by
  refine eq_of_forall_ge_iff fun c => ?_
  rw [Finset.fold_max_le, Finset.fold_max_le]
  refine and_congr Iff.rfl ⟨fun h l _ => ?_, fun h b _ => ?_⟩
  · obtain ⟨k, hk, b, rfl⟩ := col_surj l
    exact (maxFrom_le B S H g 55 a b c).1 (h b (Finset.mem_univ _)) k hk
  · exact (maxFrom_le B S H g 55 a b c).2 fun i _ => h _ (Finset.mem_univ _)

/-- A row's tests against the thresholds. -/
theorem tests_apply (B : Vec Ideal S128x7168 .bf16) (S H : Vec Ideal S1x1x7168 .bf16) (g : ℕ) (a : Fin 32) (k : Fin 256) :
    tests B S H g (ix2 a k) = Rows.reaches (Rows.top (crow B (32 * g + a.val)) (srow S) (srow H)) k := by
  unfold tests
  rw [pay17_apply, max_apply]
  rfl

/-- A row's exponent. -/
theorem exp_apply (B : Vec Ideal S128x7168 .bf16) (S H : Vec Ideal S1x1x7168 .bf16) (g : ℕ) (a : Fin 32) :
    k0_pay20 (tests B S H g) k0_pay18 k0_pay19 (ix2 a 0) = Rows.expOf (Rows.countOf (Rows.reaches (Rows.top (crow B (32 * g + a.val)) (srow S) (srow H)))) := by
  rw [pay20_apply]
  congr 2
  funext k
  exact tests_apply B S H g a k

/-- A row's scale, on every lane. -/
theorem scaleBlk_apply (B : Vec Ideal S128x7168 .bf16) (S H : Vec Ideal S1x1x7168 .bf16) (g : ℕ) (a : Fin 32) (b : Fin 128) :
    k0_pay22 (F := Ideal) (tests B S H g) k0_pay18 k0_pay19 (ix2 a b) = Rows.rowScale (crow B (32 * g + a.val)) (srow S) (srow H) := by
  rw [pay22_apply, exp_apply]
  exact (Rows.scale_words _).1

/-- A row's inverse scale. -/
theorem inv_apply (B : Vec Ideal S128x7168 .bf16) (S H : Vec Ideal S1x1x7168 .bf16) (g : ℕ) (a : Fin 32) :
    k0_pay21 (F := Ideal) (tests B S H g) k0_pay18 k0_pay19 (ix2 a 0) = Ideal.div 1 (Rows.rowScale (crow B (32 * g + a.val)) (srow S) (srow H)) := by
  rw [pay21_apply, exp_apply]
  exact (Rows.scale_words _).2

/-- A group's codes at a row and a column. -/
theorem codeBlk_apply (B : Vec Ideal S128x7168 .bf16) (S H : Vec Ideal S1x1x7168 .bf16) (g k : ℕ) (a : Fin 32) (b : Fin 128) :
    codeBlk B S H g k (ix2 a b) = Rows.code (crow B (32 * g + a.val)) (srow S) (srow H) (col k b) := by
  unfold codeBlk
  rw [pay6_apply, mean_apply, rstd_apply, inv_apply]
  rfl

/-- A chunk's code at a row and a column. -/
theorem codeAt_apply (B : Vec Ideal S128x7168 .bf16) (S H : Vec Ideal S1x1x7168 .bf16) (r l : ℕ) (hl : l < 7168) :
    codeAt B S H r l = Rows.code (crow B r) (srow S) (srow H) ⟨l, hl⟩ := by
  unfold codeAt
  rw [codeBlk_apply]
  have e1 : 32 * (r / 32) + (⟨r % 32, Nat.mod_lt _ (by decide)⟩ : Fin 32).val = r := by dsimp only; omega
  have e2 : col (l / 128) ⟨l % 128, Nat.mod_lt _ (by decide)⟩ = ⟨l, hl⟩ := by
    unfold col; refine Fin.ext ?_; dsimp only; omega
  rw [e1, e2]

/-- A chunk's scale at a row. -/
theorem scaleAt_apply (B : Vec Ideal S128x7168 .bf16) (S H : Vec Ideal S1x1x7168 .bf16) (r l : ℕ) :
    scaleAt B S H r l = Rows.rowScale (crow B r) (srow S) (srow H) := by
  unfold scaleAt scaleBlk
  rw [scaleBlk_apply]
  have e1 : 32 * (r / 32) + (⟨r % 32, Nat.mod_lt _ (by decide)⟩ : Fin 32).val = r := by dsimp only; omega
  rw [e1]

theorem diag_word : ∀ (g : Fin 4) (a : Fin 32) (b : Fin 128),
    IntOp.cmpi CmpIPredicate.eq (IntOp.addi (BitVec.ofNat 32 a.val) (Scalar.muli (Scf.iv 0#32 1#32 g.val) 32#32)) (BitVec.ofNat 32 b.val)
      = BitVec.ofBool (decide (32 * g.val + a.val = b.val)) := by
  decide +kernel

/-- A group's sum down the rows of its scales on the diagonal. -/
theorem diag_sum (B : Vec Ideal S128x7168 .bf16) (S H : Vec Ideal S1x1x7168 .bf16) (g : Fin 4) (b : Fin 128) :
    (∑ a : Fin 32, k0_pay24 (F := Ideal) (Scalar.muli (Scf.iv 0#32 1#32 g.val) 32#32) (tests B S H g.val) k0_pay18 k0_pay19 (ix2 a b))
      = if 32 * g.val ≤ b.val ∧ b.val < 32 * g.val + 32 then Rows.rowScale (crow B b.val) (srow S) (srow H) else 0 := by
  have e : ∀ a : Fin 32, k0_pay24 (F := Ideal) (Scalar.muli (Scf.iv 0#32 1#32 g.val) 32#32) (tests B S H g.val) k0_pay18 k0_pay19 (ix2 a b)
      = if 32 * g.val + a.val = b.val then Rows.rowScale (crow B b.val) (srow S) (srow H) else 0 := by
    intro a
    rw [pay24_apply, diag_word, scaleBlk_apply]
    by_cases h : 32 * g.val + a.val = b.val
    · rw [if_pos h, h]; simp [Scalar.select]
    · rw [if_neg h]; simp [h, Scalar.select]
  rw [Finset.sum_congr rfl fun a _ => e a]
  by_cases h : 32 * g.val ≤ b.val ∧ b.val < 32 * g.val + 32
  · rw [if_pos h, Finset.sum_eq_single (⟨b.val - 32 * g.val, by omega⟩ : Fin 32)]
    · rw [if_pos (by dsimp only; omega)]
    · intro a _ ha
      refine if_neg fun hc => ha (Fin.ext ?_)
      dsimp only; omega
    · intro hc; exact absurd (Finset.mem_univ _) hc
  · rw [if_neg h]
    refine Finset.sum_eq_zero fun a _ => if_neg fun hc => h ?_
    omega

/-- The scales of the groups so far, one lane per row. -/
theorem diagSum_apply (B : Vec Ideal S128x7168 .bf16) (S H : Vec Ideal S1x1x7168 .bf16) (b : Fin 128) : ∀ g < 4,
    diagSum B S H g (ix3 0 0 b) = if b.val < 32 * g + 32 then Rows.rowScale (crow B b.val) (srow S) (srow H) else 0
  | 0, _ => by
    refine (pay2_apply _ b).trans ((diag_sum B S H 0 b).trans ?_)
    refine if_congr ?_ rfl rfl
    show 32 * 0 ≤ b.val ∧ b.val < 32 * 0 + 32 ↔ _
    omega
  | g + 1, hg => by
    refine (pay3_apply _ _ b).trans ?_
    rw [diagSum_apply B S H b g (by omega), diag_sum B S H ⟨g + 1, hg⟩ b]
    dsimp only
    by_cases h1 : b.val < 32 * g + 32
    · rw [if_pos h1, if_neg (by omega), if_pos (by omega), add_zero]
    · rw [if_neg h1, zero_add]
      exact if_congr (by omega) rfl rfl

/-- A chunk's scales, one lane per row. -/
theorem scales_apply (B : Vec Ideal S128x7168 .bf16) (S H : Vec Ideal S1x1x7168 .bf16) (b : Fin 128) :
    diagSum B S H 3 (ix3 0 0 b) = Rows.rowScale (crow B b.val) (srow S) (srow H) := by
  rw [diagSum_apply B S H b 3 (by norm_num), if_pos (by omega)]

/-- A block of the product at a row and a column. -/
theorem yBlk_apply (v7 : Vec Ideal S1x1024x7168 .fp8e4m3) (v12 : Vec Ideal S1x1024x128 .f32) (v9 : Vec Ideal S7168x1280 .fp8e4m3) (ws : Vec Ideal S1x1280 .f32)
    (bias : Vec Ideal S1x1280 .bf16) (gate : Vec Ideal S1x1x1280 .bf16) (r : Fin 1024) (n : Fin 1280) :
    yBlk v7 v12 v9 ws bias gate (ix2 r n)
      = ((∑ k : Fin 7168, v7 (ix3 0 r k) * v9 (ix2 k n)) * v12 (ix3 0 r (lane n.val)) * ws (ix2 0 n) + bias (ix2 0 n)) * gate (ix3 0 0 n) := by
  unfold yBlk yElt yCell
  show ((k0_pay25 (F := Ideal) v7 v9 (ix2 r n) * k0_pay26 (F := Ideal) v12 (ix2 r (lane n.val))) * ws (ix2 0 n) + bias (ix2 0 n)) * gate (ix3 0 0 n) = _
  rw [pay25_apply, pay26_apply]

end Cert.KernelIdeal.Val
-- ==== Proof.Value.KernelBlocks.lean ====
module

public import proofs.«01_k».proof.Proof.Value.KernelCells
public import Idealize.ShloMosaic.Lib.Pipeline.ValueKit

@[expose] public section

set_option maxRecDepth 16384
set_option maxHeartbeats 400000

noncomputable section

namespace Cert.KernelIdeal.Val

open Cert.KernelIdeal Cert.KernelIdeal.Gen Cert.KernelIdeal.Run
open Idealize.ShloMosaic Idealize.ShloMosaic.TcCoe Idealize.ShloMosaic.Tactic

variable {F : FTy → Type} [FloatOps F] [Named F] (m : (ℓ : Loc nD τ sig) → Buf (Elt F) ℓ)

/-! ### What the kernel finds in its operands: the arguments, reshaped -/

/-- The rows of the input, all batches in one axis. -/
theorem V_main_v0 (c : Dev nD) : V m c main_v0 = shapeCast S32768x7168 (m ((c : Thread nD τ).loc main_arg0)) shapeCasts_S4x8192x7168_S32768x7168 := by
  show StableHlo.after hostOps0 _ (Proc.devRef .tc main_v0) = _
  after_results
  rfl
/-- The modulation's scale. -/
theorem V_main_v1 (c : Dev nD) : V m c main_v1 = shapeCast S4x1x7168 (m ((c : Thread nD τ).loc main_arg2)) shapeCasts_S4x7168_S4x1x7168 := by
  show StableHlo.after hostOps0 _ (Proc.devRef .tc main_v1) = _
  after_results
  rfl
/-- The modulation's shift. -/
theorem V_main_v2 (c : Dev nD) : V m c main_v2 = shapeCast S4x1x7168 (m ((c : Thread nD τ).loc main_arg1)) shapeCasts_S4x7168_S4x1x7168 := by
  show StableHlo.after hostOps0 _ (Proc.devRef .tc main_v2) = _
  after_results
  rfl
/-- The gate. -/
theorem V_main_v3 (c : Dev nD) : V m c main_v3 = shapeCast S4x1x10240 (m ((c : Thread nD τ).loc main_arg3)) shapeCasts_S4x10240_S4x1x10240 := by
  show StableHlo.after hostOps0 _ (Proc.devRef .tc main_v3) = _
  after_results
  rfl
/-- The scales of the weight's columns. -/
theorem V_main_v4 (c : Dev nD) : V m c main_v4 = shapeCast S1x10240 (m ((c : Thread nD τ).loc main_arg5)) shapeCasts_S10240_S1x10240 := by
  show StableHlo.after hostOps0 _ (Proc.devRef .tc main_v4) = _
  after_results
  rfl
/-- The bias. -/
theorem V_main_v5 (c : Dev nD) : V m c main_v5 = shapeCast S1x10240 (m ((c : Thread nD τ).loc main_arg6)) shapeCasts_S10240_S1x10240 := by
  show StableHlo.after hostOps0 _ (Proc.devRef .tc main_v5) = _
  after_results
  rfl

/-! ### Which blocks a grid point has -/

/-- The chunk of rows a point quantises. -/
def chunk (t : Fin cfg0.N) : ℕ := min t.val 255
/-- The block of columns a point multiplies by. -/
def colBlk (t : Fin cfg0.N) : ℕ := if t.val / 8 = 0 then 0 else t.val % 8

theorem e0 : ∀ t : Fin cfg0.N, win0_0.index t = ![chunk t, 0] := (by decide +kernel : ∀ t : Fin grid0.N, _)
theorem e1 : ∀ t : Fin cfg0.N, win0_1.index t = ![chunk t / 64, 0, 0] := (by decide +kernel : ∀ t : Fin grid0.N, _)
theorem e2 : ∀ t : Fin cfg0.N, win0_2.index t = ![chunk t / 64, 0, 0] := (by decide +kernel : ∀ t : Fin grid0.N, _)
theorem e3 : ∀ t : Fin cfg0.N, win0_3.index t = ![(t.val / 8 - 1) / 8, 0, colBlk t] := (by decide +kernel : ∀ t : Fin grid0.N, _)
theorem e4 : ∀ t : Fin cfg0.N, win0_4.index t = ![0, colBlk t] := (by decide +kernel : ∀ t : Fin grid0.N, _)
theorem e5 : ∀ t : Fin cfg0.N, win0_5.index t = ![0, colBlk t] := (by decide +kernel : ∀ t : Fin grid0.N, _)
theorem e6 : ∀ t : Fin cfg0.N, win0_6.index t = ![0, colBlk t] := (by decide +kernel : ∀ t : Fin grid0.N, _)
theorem e7 : ∀ t : Fin cfg0.N, win0_7.index t = ![t.val / 8 - 1, colBlk t] := (by decide +kernel : ∀ t : Fin grid0.N, _)
theorem e8 : ∀ t : Fin cfg0.N, win0_8.index t = ![chunk t, 0] := (by decide +kernel : ∀ t : Fin grid0.N, _)
theorem e9 : ∀ t : Fin cfg0.N, win0_9.index t = ![chunk t, 0, 0] := (by decide +kernel : ∀ t : Fin grid0.N, _)

end Cert.KernelIdeal.Val
-- ==== Proof.Value.KernelOperands.lean ====
module

public import proofs.«01_k».proof.Proof.Value.KernelBlocks

@[expose] public section

set_option maxRecDepth 16384
set_option maxHeartbeats 400000

noncomputable section

namespace Cert.KernelIdeal.Val

open Cert.KernelIdeal Cert.KernelIdeal.Gen Cert.KernelIdeal.Run
open Idealize.ShloMosaic Idealize.ShloMosaic.TcCoe Idealize.ShloMosaic.Tactic

variable (m : (ℓ : Loc nD τ sig) → Buf (Elt Ideal) ℓ)

/-! ### The reshapes, at one element -/

/-- One element of a reshaped operand. -/
theorem rows_apply {α : Type} (a : S4x8192x7168.Idx → α) (R : Fin 32768) (l : Fin 7168) :
    shapeCast S32768x7168 a shapeCasts_S4x8192x7168_S32768x7168 (ix2 R l)
      = a (ix3 (⟨R.val / 8192, by omega⟩ : Fin 4) (⟨R.val % 8192, by omega⟩ : Fin 8192) l) := by
  pointwise
@[inherit_doc rows_apply] theorem mods_apply {α : Type} (a : S4x7168.Idx → α) (b : Fin 4) (l : Fin 7168) :
    shapeCast S4x1x7168 a shapeCasts_S4x7168_S4x1x7168 (ix3 b 0 l) = a (ix2 b l) := by
  pointwise
@[inherit_doc rows_apply] theorem gates_apply {α : Type} (a : S4x10240.Idx → α) (b : Fin 4) (n : Fin 10240) :
    shapeCast S4x1x10240 a shapeCasts_S4x10240_S4x1x10240 (ix3 b 0 n) = a (ix2 b n) := by
  pointwise
@[inherit_doc rows_apply] theorem cols_apply {α : Type} (a : S10240.Idx → α) (n : Fin 10240) :
    shapeCast S1x10240 a shapeCasts_S10240_S1x10240 (ix2 0 n) = a (ix1 n) := by
  pointwise

/-! ### The blocks, at one element -/

theorem chunk_le (t : Fin cfg0.N) : chunk t ≤ 255 := Nat.min_le_right _ _
theorem colBlk_lt (t : Fin cfg0.N) : colBlk t < 8 := by unfold colBlk; split <;> omega
theorem grp_lt (t : Fin cfg0.N) : (t.val / 8 - 1) / 8 < 4 := by
  have := Nat.lt_of_lt_of_eq t.isLt N_0; omega

/-- Row `r` of the input's block: row `128 * chunk + r` of the input, all batches in one axis. -/
theorem xAt_apply (c : Dev nD) (t : Fin cfg0.N) (r : Fin 128) (l : Fin 7168) :
    xAt m c t (ix2 r l) = m ((c : Thread nD τ).loc main_arg0)
      (ix3 (⟨(128 * chunk t + r.val) / 8192, by have := chunk_le t; omega⟩ : Fin 4) (⟨(128 * chunk t + r.val) % 8192, by omega⟩ : Fin 8192) l) := by
  have h : xAt m c t (ix2 r l) = V m c main_v0 (ix2 (⟨128 * chunk t + r.val, by have := chunk_le t; omega⟩ : Fin 32768) l) := by
    unfold xAt
    blk_ext [iblk, e0 t]
  rw [h, V_main_v0, rows_apply]
/-- The scale's block: the row of the chunk's batch. -/
theorem sAt_apply (c : Dev nD) (t : Fin cfg0.N) (l : Fin 7168) :
    sAt m c t (ix3 0 0 l) = m ((c : Thread nD τ).loc main_arg2) (ix2 (⟨chunk t / 64, by have := chunk_le t; omega⟩ : Fin 4) l) := by
  have h : sAt m c t (ix3 0 0 l) = V m c main_v1 (ix3 (⟨chunk t / 64, by have := chunk_le t; omega⟩ : Fin 4) 0 l) := by
    unfold sAt
    blk_ext [iblk, e1 t]
  rw [h, V_main_v1, mods_apply]
/-- The gate's block: columns `1280 * colBlk + n` of the row of the group's batch. -/
theorem gAt_apply (c : Dev nD) (t : Fin cfg0.N) (n : Fin 1280) :
    gAt m c t (ix3 0 0 n) = m ((c : Thread nD τ).loc main_arg3) (ix2 (⟨(t.val / 8 - 1) / 8, grp_lt t⟩ : Fin 4)
      (⟨1280 * colBlk t + n.val, by have := colBlk_lt t; omega⟩ : Fin 10240)) := by
  have h : gAt m c t (ix3 0 0 n) = V m c main_v3 (ix3 (⟨(t.val / 8 - 1) / 8, grp_lt t⟩ : Fin 4) 0
      (⟨1280 * colBlk t + n.val, by have := colBlk_lt t; omega⟩ : Fin 10240)) := by
    unfold gAt
    blk_ext [iblk, e3 t]
  rw [h, V_main_v3, gates_apply]
/-- The weight's block: columns `1280 * colBlk + n`. -/
theorem wAt_apply (c : Dev nD) (t : Fin cfg0.N) (k : Fin 7168) (n : Fin 1280) :
    wAt m c t (ix2 k n) = m ((c : Thread nD τ).loc main_arg4) (ix2 k (⟨1280 * colBlk t + n.val, by have := colBlk_lt t; omega⟩ : Fin 10240)) := by
  have h : wAt m c t (ix2 k n) = V m c main_arg4 (ix2 k (⟨1280 * colBlk t + n.val, by have := colBlk_lt t; omega⟩ : Fin 10240)) := by
    unfold wAt
    blk_ext [iblk, e4 t]
  rw [h, V_main_arg4]
/-- The weight scales' block. -/
theorem wsAt_apply (c : Dev nD) (t : Fin cfg0.N) (n : Fin 1280) :
    wsAt m c t (ix2 0 n) = m ((c : Thread nD τ).loc main_arg5) (ix1 (⟨1280 * colBlk t + n.val, by have := colBlk_lt t; omega⟩ : Fin 10240)) := by
  have h : wsAt m c t (ix2 0 n) = V m c main_v4 (ix2 0 (⟨1280 * colBlk t + n.val, by have := colBlk_lt t; omega⟩ : Fin 10240)) := by
    unfold wsAt
    blk_ext [iblk, e5 t]
  rw [h, V_main_v4, cols_apply]
/-- The shift's block: the row of the chunk's batch. -/
theorem hAt_apply (c : Dev nD) (t : Fin cfg0.N) (l : Fin 7168) :
    hAt m c t (ix3 0 0 l) = m ((c : Thread nD τ).loc main_arg1) (ix2 (⟨chunk t / 64, by have := chunk_le t; omega⟩ : Fin 4) l) := by
  have h : hAt m c t (ix3 0 0 l) = V m c main_v2 (ix3 (⟨chunk t / 64, by have := chunk_le t; omega⟩ : Fin 4) 0 l) := by
    unfold hAt
    blk_ext [iblk, e2 t]
  rw [h, V_main_v2, mods_apply]
/-- The bias's block. -/
theorem bAt_apply (c : Dev nD) (t : Fin cfg0.N) (n : Fin 1280) :
    bAt m c t (ix2 0 n) = m ((c : Thread nD τ).loc main_arg6) (ix1 (⟨1280 * colBlk t + n.val, by have := colBlk_lt t; omega⟩ : Fin 10240)) := by
  have h : bAt m c t (ix2 0 n) = V m c main_v5 (ix2 0 (⟨1280 * colBlk t + n.val, by have := colBlk_lt t; omega⟩ : Fin 10240)) := by
    unfold bAt
    blk_ext [iblk, e6 t]
  rw [h, V_main_v5, cols_apply]

end Cert.KernelIdeal.Val
-- ==== Proof.Value.RefCells.lean ====
module

public import proofs.«01_k».proof.Proof.Gen.ReferenceIdeal.Value
public import proofs.«01_k».proof.Proof.Value.Scale
public import Idealize.ShloMosaic.Lib.Pointwise

@[expose] public section

set_option maxRecDepth 16384
set_option maxHeartbeats 400000

noncomputable section

namespace Cert.ReferenceIdeal.Val

open Cert.ReferenceIdeal Cert.ReferenceIdeal.Gen Cert.ReferenceIdeal.Value
open Idealize.ShloMosaic Idealize.ShloMosaic.TcCoe Idealize.ShloMosaic.Tactic

/-- The modulated row of the reference. -/
theorem pay3_apply (x : Vec Ideal S4x8192x7168 .bf16) (sc sh : Vec Ideal S4x7168 .bf16) (b : Fin 4) (r : Fin 8192) (l : Fin 7168) :
    k0_pay3 (F := Ideal) x sc sh (ix3 b r l) =
    (x (ix3 b r l) - Ideal.div (∑ x_1, x (ix3 b r x_1)) (Ideal.ofBits FTy.f32 1172307968#32)) *
          Ideal.rsqrt
            (Ideal.div
                (∑ x_1,
                  (x (ix3 b r x_1) - Ideal.div (∑ x_2, x (ix3 b r x_2)) (Ideal.ofBits FTy.f32 1172307968#32)) *
                    (x (ix3 b r x_1) - Ideal.div (∑ x_2, x (ix3 b r x_2)) (Ideal.ofBits FTy.f32 1172307968#32)))
                (Ideal.ofBits FTy.f32 1172307968#32) +
              Ideal.ofBits FTy.f32 897988541#32) *
        (1 + sc (ix2 b l)) +
      sh (ix2 b l) := by
  pointwise [k0_pay3]

/-- A maximum along the last of three axes. -/
theorem reduce_max_apply {n0 n1 n2 : ℕ} (h : (⟨3, ![n0, n1, n2]⟩ : Shape).Reduces [2] ⟨2, ![n0, n1]⟩) (v : FVec Ideal ⟨3, ![n0, n1, n2]⟩ .f32) (i : Fin n0) (j : Fin n1) :
    multiReduction (F := Ideal) .maximumf [2] ⟨2, ![n0, n1]⟩ v 0xFF800000#32 h (.inl rfl) rfl (ix2 i j)
      = Finset.fold max (Ideal.ofBits FTy.f32 4286578688#32) (fun l => v (ix3 i j l)) Finset.univ := by
  pointwise []
theorem pay4_tail (q : FVec Ideal S4x8192 .f32) (b : Fin 4) (r : Fin 8192) :
   mulf (F := Ideal) (shapeCast S4x8192x1 q shapeCasts_S4x8192_S4x8192x1)
      (broadcast S4x8192x1 (Scalar.ofBits .f32 0x3B124925#32)) (ix3 b r (0 : Fin 1)) = q (ix2 b r) * Ideal.ofBits FTy.f32 991054117#32 := by
  pointwise []
theorem pay4_apply (x : Vec Ideal S4x8192x7168 .bf16) (sc sh : Vec Ideal S4x7168 .bf16) (b : Fin 4) (r : Fin 8192) :
    k0_pay4 (F := Ideal) x sc sh (ix3 b r (0 : Fin 1)) =
    Finset.fold max (Ideal.ofBits FTy.f32 4286578688#32) (fun l => FloatOps.absf (F := Ideal) (φ := .f32) (k0_pay3 (F := Ideal) x sc sh (ix3 b r l))) Finset.univ *
      Ideal.ofBits FTy.f32 991054117#32 := by
  refine (pay4_tail _ b r).trans ?_
  rw [reduce_max_apply reduces_S4x8192x7168_S4x8192]
  rfl

theorem pay5_apply (k : Fin 252) :
    k0_pay5 (F := Ideal) (ix3 (0:Fin 1) (0:Fin 1) k) =
     FloatOps.exp2 (F := Ideal) (φ := .f32) (FloatOps.sitofp (F := Ideal) FTy.f32 (BitVec.ofNat 32 k.val) - Ideal.ofBits FTy.f32 1123680256#32) := by
  pointwise [k0_pay5]
theorem pay6_aux (p : FVec Ideal S4x8192x1 .f32) (q : FVec Ideal S1x1x252 .f32) (b : Fin 4) (r : Fin 8192) (k : Fin 252) :
   cmpf (F := Ideal) .ogt (broadcastTo S4x8192x252 q broadcasts_S1x1x252_S4x8192x252) (broadcastTo S4x8192x252 p broadcasts_S4x8192x1_S4x8192x252) (ix3 b r k)
    = BitVec.ofBool (decide (p (ix3 b r 0) < q (ix3 0 0 k))) := by
  pointwise []
theorem pay6_apply (x : Vec Ideal S4x8192x7168 .bf16) (sc sh : Vec Ideal S4x7168 .bf16) (b : Fin 4) (r : Fin 8192) (k : Fin 252) :
    k0_pay6 (F := Ideal) x sc sh (ix3 b r k) = BitVec.ofBool (decide (k0_pay4 (F := Ideal) x sc sh (ix3 b r 0) < k0_pay5 (F := Ideal) (ix3 0 0 k))) := pay6_aux _ _ b r k
theorem pay7_apply  (v34 : FVec Ideal S4x8192x1 .f32) (v39 : FVec Ideal S1x1x252 .f32) (v42 : IVec S4x8192x252 1) (z : Ideal .f32) (b : Fin 4) (r : Fin 8192) :
    k0_pay7 (F := Ideal) v34 v39 v42 z (ix3 b r (0:Fin 1)) =  Scalar.select
      (IntOp.andi (BitVec.ofBool (decide (Ideal.ofBits FTy.f32 8388608#32 ≤ v34 (ix3 b r 0))))
        (BitVec.ofBool (decide (v34 (ix3 b r 0) < Ideal.ofBits FTy.f32 2122317824#32))))
      (Finset.fold min (Ideal.ofBits FTy.f32 2139095040#32)
        (fun x => Scalar.select (v42 (ix3 b r x)) (v39 (ix3 0 0 x)) z) Finset.univ)
      (1 : EReal) := by
  pointwise [k0_pay7]
theorem pay2_apply (v55 : FVec Ideal S4x8192x1 .f32) (c : Fin 256) (l : Fin 128) :
    k0_pay2 (F := Ideal) v55 (ix3 c (0 : Fin 1) l) = v55 (ix3 ⟨c.val / 64, by omega⟩ ⟨c.val % 64 * 128 + l.val, by omega⟩ 0) := by
  pointwise [k0_pay2]
theorem pay1_apply (v55 : FVec Ideal S4x8192x7168 .fp8e4m3) (r : Fin 32768) (l : Fin 7168) :
    k0_pay1 (F := Ideal) v55 (ix2 r l) = v55 (ix3 ⟨r.val / 8192, by omega⟩ ⟨r.val % 8192, by omega⟩ l) := by
  pointwise [k0_pay1]

theorem pay8_apply  (v29 : FVec Ideal S4x8192x7168 .f32) (v34 : FVec Ideal S4x8192x1 .f32) (v39 : FVec Ideal S1x1x252 .f32) (v42 : IVec S4x8192x252 1) (z : Ideal .f32) (b : Fin 4) (r : Fin 8192) (l : Fin 7168) :
    k0_pay8 (F := Ideal) v29 v34 v39 v42 z (ix3 b r l) =
     min (Ideal.ofBits FTy.f32 1138753536#32)
      (max (Ideal.ofBits FTy.f32 3286237184#32) (v29 (ix3 b r l) * Ideal.div 1 (k0_pay7 (F := Ideal) v34 v39 v42 z (ix3 b r 0)))) := by
  unfold k0_pay8
  generalize k0_pay7 (F := Ideal) v34 v39 v42 z = p
  pointwise []

theorem pay9_apply  (v29 : FVec Ideal S4x8192x7168 .f32) (v34 : FVec Ideal S4x8192x1 .f32) (v39 : FVec Ideal S1x1x252 .f32) (v42 : IVec S4x8192x252 1) (z : Ideal .f32)
   (v66 : Vec Ideal S7168x10240 .fp8e4m3) (v71 : Vec Ideal S10240 .f32) (v75 : Vec Ideal S10240 .bf16) (v80 : Vec Ideal S4x10240 .bf16)  (r : Fin 32768) (n : Fin 10240) :
    k0_pay9 (F := Ideal) v29 v34 v39 v42 z v66 v71 v75 v80 (ix2 r n) =
    ((∑ x, k0_pay8 (F := Ideal) v29 v34 v39 v42 z (ix3 ⟨r.val / 8192, by omega⟩ ⟨r.val % 8192, by omega⟩ x) * v66 (ix2 x n)) * k0_pay7 (F := Ideal) v34 v39 v42 z (ix3 ⟨r.val / 8192, by omega⟩ ⟨r.val % 8192, by omega⟩ 0) *
          v71 (ix1 n) +
        v75 (ix1 n)) *
      v80 (ix2 ⟨r.val / 8192, by omega⟩ n) := by
  unfold k0_pay9
  generalize k0_pay7 (F := Ideal) v34 v39 v42 z = p
  generalize k0_pay8 (F := Ideal) v29 v34 v39 v42 z = q
  pointwise []

/-- The row of an array's batch and place, its scale row and its shift row. -/
abbrev xrow (x : Vec Ideal S4x8192x7168 .bf16) (b : Fin 4) (r : Fin 8192) : Fin 7168 → EReal := fun l => x (ix3 b r l)
@[inherit_doc xrow] abbrev brow (s : Vec Ideal S4x7168 .bf16) (b : Fin 4) : Fin 7168 → EReal := fun l => s (ix2 b l)

/-- The modulated row. -/
theorem mod_apply (x : Vec Ideal S4x8192x7168 .bf16) (sc sh : Vec Ideal S4x7168 .bf16) (b : Fin 4) (r : Fin 8192) (l : Fin 7168) :
    k0_pay3 (F := Ideal) x sc sh (ix3 b r l) = Rows.modulated (xrow x b r) (brow sc b) (brow sh b) l := by
  rw [pay3_apply]
  simp only [Rows.div_len]
  rfl

/-- The number that the row's scale is taken of. -/
theorem top_apply (x : Vec Ideal S4x8192x7168 .bf16) (sc sh : Vec Ideal S4x7168 .bf16) (b : Fin 4) (r : Fin 8192) :
    k0_pay4 (F := Ideal) x sc sh (ix3 b r (0 : Fin 1)) = Rows.top (xrow x b r) (brow sc b) (brow sh b) := by
  rw [pay4_apply]
  simp only [mod_apply]
  rfl

/-- A choice by two tests. -/
theorem select_and (p q : Prop) [Decidable p] [Decidable q] (a b : EReal) :
    Scalar.select (IntOp.andi (BitVec.ofBool (decide p)) (BitVec.ofBool (decide q))) a b = if p ∧ q then a else b := by
  by_cases hp : p <;> by_cases hq : q <;> simp [hp, hq, Scalar.select, IntOp.andi]

/-- The row's scale. -/
theorem scale_apply (x : Vec Ideal S4x8192x7168 .bf16) (sc sh : Vec Ideal S4x7168 .bf16) (b : Fin 4) (r : Fin 8192) :
    k0_pay7 (F := Ideal) (k0_pay4 x sc sh) k0_pay5 (k0_pay6 x sc sh) (Scalar.ofBits .f32 0x7F800000#32) (ix3 b r (0 : Fin 1))
      = Rows.rowScale (xrow x b r) (brow sc b) (brow sh b) := by
  rw [pay7_apply, select_and]
  simp only [pay6_apply, top_apply, pay5_apply, Rows.exp2_power]
  unfold Rows.rowScale Rows.scale
  congr 1
  congr 1
  funext j
  generalize Rows.top (xrow x b r) (brow sc b) (brow sh b) = v
  by_cases h : v < Rows.p2 ((j.val : ℤ) - 125)
  · rw [if_pos h]; simp [h, Scalar.select]
  · rw [if_neg h]; simp [h, Scalar.select]

/-- The row's code. -/
theorem code_apply (x : Vec Ideal S4x8192x7168 .bf16) (sc sh : Vec Ideal S4x7168 .bf16) (b : Fin 4) (r : Fin 8192) (l : Fin 7168) :
    k0_pay8 (F := Ideal) (k0_pay3 x sc sh) (k0_pay4 x sc sh) k0_pay5 (k0_pay6 x sc sh) (Scalar.ofBits .f32 0x7F800000#32) (ix3 b r l)
      = Rows.code (xrow x b r) (brow sc b) (brow sh b) l := by
  rw [pay8_apply, scale_apply, mod_apply]
  rfl

theorem p10 (a0 : Vec Ideal S4x8192x7168 .bf16) (a1 a2 : Vec Ideal S4x7168 .bf16) (a3 : Vec Ideal S4x10240 .bf16) (a4 : Vec Ideal S7168x10240 .fp8e4m3) (a5 : Vec Ideal S10240 .f32) (a6 : Vec Ideal S10240 .bf16) :
    k0_pay10 (F := Ideal) a0 a1 a2 a3 a4 a5 a6 = k0_pay3 a0 a2 a1 := by
  unfold k0_pay10
  rw [View.ld_unit_zero (S := S4x8192x7168) hz0 _ a0, View.ld_unit_zero (S := S4x7168) hz1 _ a1, View.ld_unit_zero (S := S4x7168) hz1 _ a2]
theorem p11 (a0 : Vec Ideal S4x8192x7168 .bf16) (a1 a2 : Vec Ideal S4x7168 .bf16) (a3 : Vec Ideal S4x10240 .bf16) (a4 : Vec Ideal S7168x10240 .fp8e4m3) (a5 : Vec Ideal S10240 .f32) (a6 : Vec Ideal S10240 .bf16) :
    k0_pay11 (F := Ideal) a0 a1 a2 a3 a4 a5 a6 = k0_pay4 a0 a2 a1 := by
  unfold k0_pay11
  rw [View.ld_unit_zero (S := S4x8192x7168) hz0 _ a0, View.ld_unit_zero (S := S4x7168) hz1 _ a1, View.ld_unit_zero (S := S4x7168) hz1 _ a2]
theorem p13 (a0 : Vec Ideal S4x8192x7168 .bf16) (a1 a2 : Vec Ideal S4x7168 .bf16) (a3 : Vec Ideal S4x10240 .bf16) (a4 : Vec Ideal S7168x10240 .fp8e4m3) (a5 : Vec Ideal S10240 .f32) (a6 : Vec Ideal S10240 .bf16) :
    k0_pay13 (F := Ideal) a0 a1 a2 a3 a4 a5 a6 = k0_pay6 a0 a2 a1 := by
  unfold k0_pay13
  rw [View.ld_unit_zero (S := S4x8192x7168) hz0 _ a0, View.ld_unit_zero (S := S4x7168) hz1 _ a1, View.ld_unit_zero (S := S4x7168) hz1 _ a2]

/-- The reference's product at a row and a column. -/
theorem G7_apply (a0 : Vec Ideal S4x8192x7168 .bf16) (a1 a2 : Vec Ideal S4x7168 .bf16) (a3 : Vec Ideal S4x10240 .bf16) (a4 : Vec Ideal S7168x10240 .fp8e4m3) (a5 : Vec Ideal S10240 .f32) (a6 : Vec Ideal S10240 .bf16)
    (r : Fin 32768) (n : Fin 10240) :
    G7 (F := Ideal) a0 a1 a2 a3 a4 a5 a6 (ix2 r n) = Rows.out (xrow a0 ⟨r.val / 8192, by omega⟩ ⟨r.val % 8192, by omega⟩) (brow a2 ⟨r.val / 8192, by omega⟩)
      (brow a1 ⟨r.val / 8192, by omega⟩) (fun k => a4 (ix2 k n)) (a5 (ix1 n)) (a6 (ix1 n)) (a3 (ix2 ⟨r.val / 8192, by omega⟩ n)) := by
  unfold G7
  rw [p10, p11, p13, show k0_pay12 (F := Ideal) a0 a1 a2 a3 a4 a5 a6 = k0_pay5 from rfl, pay9_apply, scale_apply]
  simp only [code_apply]
  rfl

/-- The reference's code at a row and a column. -/
theorem G8_apply (a0 : Vec Ideal S4x8192x7168 .bf16) (a1 a2 : Vec Ideal S4x7168 .bf16) (a3 : Vec Ideal S4x10240 .bf16) (a4 : Vec Ideal S7168x10240 .fp8e4m3) (a5 : Vec Ideal S10240 .f32) (a6 : Vec Ideal S10240 .bf16)
    (r : Fin 32768) (l : Fin 7168) :
    G8 (F := Ideal) a0 a1 a2 a3 a4 a5 a6 (ix2 r l) = Rows.code (xrow a0 ⟨r.val / 8192, by omega⟩ ⟨r.val % 8192, by omega⟩) (brow a2 ⟨r.val / 8192, by omega⟩)
      (brow a1 ⟨r.val / 8192, by omega⟩) l := by
  unfold G8
  rw [p10, p11, p13, show k0_pay12 (F := Ideal) a0 a1 a2 a3 a4 a5 a6 = k0_pay5 from rfl, pay1_apply, code_apply]

/-- The reference's scale at a chunk and a lane. -/
theorem G9_apply (a0 : Vec Ideal S4x8192x7168 .bf16) (a1 a2 : Vec Ideal S4x7168 .bf16) (a3 : Vec Ideal S4x10240 .bf16) (a4 : Vec Ideal S7168x10240 .fp8e4m3) (a5 : Vec Ideal S10240 .f32) (a6 : Vec Ideal S10240 .bf16)
    (c : Fin 256) (l : Fin 128) :
    G9 (F := Ideal) a0 a1 a2 a3 a4 a5 a6 (ix3 c 0 l) = Rows.rowScale (xrow a0 ⟨c.val / 64, by omega⟩ ⟨c.val % 64 * 128 + l.val, by omega⟩) (brow a2 ⟨c.val / 64, by omega⟩)
      (brow a1 ⟨c.val / 64, by omega⟩) := by
  unfold G9
  rw [p11, p13, show k0_pay12 (F := Ideal) a0 a1 a2 a3 a4 a5 a6 = k0_pay5 from rfl, pay2_apply, scale_apply]

end Cert.ReferenceIdeal.Val
-- ==== Proof.Value.KernelArrays.lean ====
module

public import proofs.«01_k».proof.Proof.Value.KernelOperands
public import proofs.«01_k».proof.Proof.Value.RefCells
public import Idealize.ShloMosaic.Lib.Pipeline.ArrRel

@[expose] public section

set_option maxRecDepth 16384
set_option maxHeartbeats 400000

noncomputable section

namespace Cert.KernelIdeal.Val

open Cert.KernelIdeal Cert.KernelIdeal.Gen Cert.KernelIdeal.Run
open Idealize.ShloMosaic Idealize.ShloMosaic.TcCoe Idealize.ShloMosaic.Tactic

open Idealize.ShloMosaic.Pipeline (RDat Dat)

variable (m : (ℓ : Loc nD τ sig) → Buf (Elt Ideal) ℓ)

/-- A result of the reference, of the kernel's arguments. -/
def ref7 (c : Dev nD) : Vec Ideal S32768x10240 .bf16 := Cert.ReferenceIdeal.Value.G7 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
@[inherit_doc ref7] def ref8 (c : Dev nD) : Vec Ideal S32768x7168 .fp8e4m3 := Cert.ReferenceIdeal.Value.G8 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
@[inherit_doc ref7] def ref9 (c : Dev nD) : Vec Ideal S256x1x128 .f32 := Cert.ReferenceIdeal.Value.G9 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))

/-- A row of a point's input block is a row of the input. -/
theorem crow_xAt (c : Dev nD) (t : Fin cfg0.N) (r : ℕ) (b : Fin 4) (q : Fin 8192) (hb : b.val = chunk t / 64) (hq : q.val = chunk t % 64 * 128 + r % 128) :
    crow (xAt m c t) r = Cert.ReferenceIdeal.Val.xrow (m ((c : Thread nD τ).loc main_arg0)) b q := by
  funext l
  unfold crow
  rw [xAt_apply]
  show _ = m ((c : Thread nD τ).loc main_arg0) (ix3 b q l)
  congr 2
  · exact Fin.ext (by show (128 * chunk t + r % 128) / 8192 = _; omega)
  · exact Fin.ext (by show (128 * chunk t + r % 128) % 8192 = _; omega)
/-- A point's scale row is the row of its batch. -/
theorem srow_sAt (c : Dev nD) (t : Fin cfg0.N) (b : Fin 4) (hb : b.val = chunk t / 64) :
    srow (sAt m c t) = Cert.ReferenceIdeal.Val.brow (m ((c : Thread nD τ).loc main_arg2)) b := by
  funext l
  unfold srow
  rw [sAt_apply]
  show _ = m ((c : Thread nD τ).loc main_arg2) (ix2 b l)
  congr 2
  exact Fin.ext hb.symm
/-- A point's shift row is the row of its batch. -/
theorem srow_hAt (c : Dev nD) (t : Fin cfg0.N) (b : Fin 4) (hb : b.val = chunk t / 64) :
    srow (hAt m c t) = Cert.ReferenceIdeal.Val.brow (m ((c : Thread nD τ).loc main_arg1)) b := by
  funext l
  unfold srow
  rw [hAt_apply]
  show _ = m ((c : Thread nD τ).loc main_arg1) (ix2 b l)
  congr 2
  exact Fin.ext hb.symm

/-- The reference's codes at one element, of the kernel's arguments. -/
theorem ref8_apply (c : Dev nD) (R : Fin 32768) (l : Fin 7168) :
    ref8 m c (ix2 R l) = Rows.code
      (Cert.ReferenceIdeal.Val.xrow (m ((c : Thread nD τ).loc main_arg0)) ⟨R.val / 8192, by omega⟩ ⟨R.val % 8192, by omega⟩)
      (Cert.ReferenceIdeal.Val.brow (m ((c : Thread nD τ).loc main_arg2)) ⟨R.val / 8192, by omega⟩)
      (Cert.ReferenceIdeal.Val.brow (m ((c : Thread nD τ).loc main_arg1)) ⟨R.val / 8192, by omega⟩) l :=
  Cert.ReferenceIdeal.Val.G8_apply _ _ _ _ _ _ _ R l
/-- The reference's row scales at one element, of the kernel's arguments. -/
theorem ref9_apply (c : Dev nD) (k : Fin 256) (l : Fin 128) :
    ref9 m c (ix3 k 0 l) = Rows.rowScale
      (Cert.ReferenceIdeal.Val.xrow (m ((c : Thread nD τ).loc main_arg0)) ⟨k.val / 64, by omega⟩ ⟨k.val % 64 * 128 + l.val, by omega⟩)
      (Cert.ReferenceIdeal.Val.brow (m ((c : Thread nD τ).loc main_arg2)) ⟨k.val / 64, by omega⟩)
      (Cert.ReferenceIdeal.Val.brow (m ((c : Thread nD τ).loc main_arg1)) ⟨k.val / 64, by omega⟩) :=
  Cert.ReferenceIdeal.Val.G9_apply _ _ _ _ _ _ _ k l
/-- The reference's product at one element, of the kernel's arguments. -/
theorem ref7_apply (c : Dev nD) (R : Fin 32768) (n : Fin 10240) :
    ref7 m c (ix2 R n) = Rows.out
      (Cert.ReferenceIdeal.Val.xrow (m ((c : Thread nD τ).loc main_arg0)) ⟨R.val / 8192, by omega⟩ ⟨R.val % 8192, by omega⟩)
      (Cert.ReferenceIdeal.Val.brow (m ((c : Thread nD τ).loc main_arg2)) ⟨R.val / 8192, by omega⟩)
      (Cert.ReferenceIdeal.Val.brow (m ((c : Thread nD τ).loc main_arg1)) ⟨R.val / 8192, by omega⟩)
      (fun k => m ((c : Thread nD τ).loc main_arg4) (ix2 k n)) (m ((c : Thread nD τ).loc main_arg5) (ix1 n)) (m ((c : Thread nD τ).loc main_arg6) (ix1 n))
      (m ((c : Thread nD τ).loc main_arg3) (ix2 (⟨R.val / 8192, by omega⟩ : Fin 4) n)) :=
  Cert.ReferenceIdeal.Val.G7_apply _ _ _ _ _ _ _ R n

/-- A point's code of one element, as the row's code. -/
theorem codeT_apply (c : Dev nD) (t : Fin cfg0.N) (r l : ℕ) (hl : l < 7168) (b : Fin 4) (q : Fin 8192)
    (hb : b.val = chunk t / 64) (hq : q.val = chunk t % 64 * 128 + r % 128) :
    codeT m c t.val r l = Rows.code (Cert.ReferenceIdeal.Val.xrow (m ((c : Thread nD τ).loc main_arg0)) b q)
      (Cert.ReferenceIdeal.Val.brow (m ((c : Thread nD τ).loc main_arg2)) b) (Cert.ReferenceIdeal.Val.brow (m ((c : Thread nD τ).loc main_arg1)) b) ⟨l, hl⟩ := by
  unfold codeT
  rw [pt_val, codeAt_apply _ _ _ _ _ hl, crow_xAt m c t r b q hb hq, srow_sAt m c t b hb, srow_hAt m c t b hb]
/-- A point's scale of one row, as the row's scale. -/
theorem scaleT_apply (c : Dev nD) (t : Fin cfg0.N) (r l : ℕ) (b : Fin 4) (q : Fin 8192)
    (hb : b.val = chunk t / 64) (hq : q.val = chunk t % 64 * 128 + r % 128) :
    scaleT m c t.val r l = Rows.rowScale (Cert.ReferenceIdeal.Val.xrow (m ((c : Thread nD τ).loc main_arg0)) b q)
      (Cert.ReferenceIdeal.Val.brow (m ((c : Thread nD τ).loc main_arg2)) b) (Cert.ReferenceIdeal.Val.brow (m ((c : Thread nD τ).loc main_arg1)) b) := by
  unfold scaleT
  rw [pt_val, scaleAt_apply, crow_xAt m c t r b q hb hq, srow_sAt m c t b hb, srow_hAt m c t b hb]

/-- The codes that a point leaves are the reference's. -/
theorem code_cell (c : Dev nD) (t : Fin cfg0.N) (r : Fin 128) (l : Fin 7168) :
    codeT m c t.val r.val l.val = ref8 m c ((win0_8.blk t).view.emb (ix2 r l)) := by
  have hc := chunk_le t
  have e : (win0_8.blk t).view.emb (ix2 r l) = (ix2 (⟨128 * chunk t + r.val, by omega⟩ : Fin 32768) l : S32768x7168.Idx) := by
    blk_ext [e8 t]
  rw [e, ref8_apply]
  exact codeT_apply m c t r.val l.val l.isLt _ _ (by dsimp only; omega) (by dsimp only; omega)

/-- The scales that a point leaves are the reference's. -/
theorem scale_cell (c : Dev nD) (t : Fin cfg0.N) (b : Fin 128) :
    diagSum (xAt m c t) (sAt m c t) (hAt m c t) 3 (ix3 0 0 b) = ref9 m c ((win0_9.blk t).view.emb (ix3 0 0 b)) := by
  have hc := chunk_le t
  have e : (win0_9.blk t).view.emb (ix3 0 0 b) = (ix3 (⟨chunk t, by omega⟩ : Fin 256) 0 b : S256x1x128.Idx) := by
    blk_ext [e9 t]
  rw [e, ref9_apply, scales_apply, crow_xAt m c t _ ⟨chunk t / 64, by omega⟩ ⟨chunk t % 64 * 128 + b.val, by omega⟩ rfl ?_,
    srow_sAt m c t ⟨chunk t / 64, by omega⟩ rfl, srow_hAt m c t ⟨chunk t / 64, by omega⟩ rfl]
  dsimp only; omega

/-- The products that a point leaves, once it multiplies, are the reference's. -/
theorem out_cell (c : Dev nD) (t : Fin cfg0.N) (ht : 8 ≤ t.val) (r : Fin 1024) (n : Fin 1280) :
    yT m c t (ix2 r n) = ref7 m c ((win0_7.blk t).view.emb (ix2 r n)) := by
  have htN := Nat.lt_of_lt_of_eq t.isLt N_0
  have hcb := colBlk_lt t
  have e : (win0_7.blk t).view.emb (ix2 r n) = (ix2 (⟨1024 * (t.val / 8 - 1) + r.val, by omega⟩ : Fin 32768)
      (⟨1280 * colBlk t + n.val, by omega⟩ : Fin 10240) : S32768x10240.Idx) := by
    blk_ext [e7 t]
  rw [e, ref7_apply]
  unfold yT
  rw [yBlk_apply]
  unfold Rows.out
  have hp : 8 * (t.val / 8 - 1) + r.val / 128 < cfg0.N := Nat.lt_of_lt_of_eq (by omega : _ < 264) N_0.symm
  have hch : chunk ⟨8 * (t.val / 8 - 1) + r.val / 128, hp⟩ = 8 * (t.val / 8 - 1) + r.val / 128 := by
    unfold chunk; dsimp only; omega
  rw [wsAt_apply, bAt_apply, gAt_apply]
  have hs : slabST m c (8 * (t.val / 8 - 1)) (ix3 0 r (lane n.val)) = _ :=
    scaleT_apply m c ⟨8 * (t.val / 8 - 1) + r.val / 128, hp⟩ (r.val % 128) (lane n.val).val
      ⟨(1024 * (t.val / 8 - 1) + r.val) / 8192, by omega⟩ ⟨(1024 * (t.val / 8 - 1) + r.val) % 8192, by omega⟩
      (by rw [hch]; dsimp only; omega) (by rw [hch]; dsimp only; omega)
  have hk : ∀ k : Fin 7168, slabT m c (8 * (t.val / 8 - 1)) (ix3 0 r k) = _ := fun k =>
    codeT_apply m c ⟨8 * (t.val / 8 - 1) + r.val / 128, hp⟩ (r.val % 128) k.val k.isLt
      ⟨(1024 * (t.val / 8 - 1) + r.val) / 8192, by omega⟩ ⟨(1024 * (t.val / 8 - 1) + r.val) % 8192, by omega⟩
      (by rw [hch]; dsimp only; omega) (by rw [hch]; dsimp only; omega)
  have hg : (⟨(t.val / 8 - 1) / 8, grp_lt t⟩ : Fin 4) = ⟨(1024 * (t.val / 8 - 1) + r.val) / 8192, by omega⟩ :=
    Fin.ext (by dsimp only; omega)
  rw [hs, hg]
  simp only [hk, wAt_apply]

/-- Every point that writes its block of products back is one that multiplies. -/
theorem flush7_ge : ∀ t : Fin cfg0.N, (cfg0.win 7).flush t = true → 8 ≤ t.val := (by decide +kernel : ∀ t : Fin grid0.N, _)

/-- After the run the three results are the reference's, of the kernel's arguments. -/
theorem results (r : PUnit × MemSt nD τ sig (Elt Ideal)) (h : RDat.FramePost (cfgs 0) (rdat m) (V m) r) (c : Dev nD) :
    r.2.mem ((c : Thread nD τ).loc main_v6_0) = ref7 m c ∧ r.2.mem ((c : Thread nD τ).loc main_v6_1) = ref8 m c
      ∧ r.2.mem ((c : Thread nD τ).loc main_v6_2) = ref9 m c := by
  obtain ⟨after, hL, hA⟩ := h.exists_exact c
  refine ⟨(hA 7).trans ?_, (hA 8).trans ?_, (hA 9).trans ?_⟩
  · refine ((rdat m c).withAfter after).arrAt_eq_of_covers 7 _ (by decide +kernel) fun t hf y => ?_
    obtain ⟨Y, _, hX⟩ := hL 7 t hf
    have hX' : ∀ y : S1024x1280.Idx, after 7 t y = yT m c t y := hX (flush7_ge t hf)
    obtain ⟨a, b, hb⟩ : ∃ (a : Fin 1024) (b : Fin 1280), (y : S1024x1280.Idx) = ix2 a b := ⟨y 0, y 1, by blk_ext []⟩
    subst hb
    exact (hX' _).trans (out_cell m c t (flush7_ge t hf) a b)
  · refine ((rdat m c).withAfter after).arrAt_eq_of_covers 8 _ (by decide +kernel) fun t hf y => ?_
    obtain ⟨Y, _, hX⟩ := hL 8 t hf
    have hX' : ∀ y : S128x7168.Idx, after 8 t y = codeT m c t.val (y 0).val (y 1).val := hX
    obtain ⟨a, b, hb⟩ : ∃ (a : Fin 128) (b : Fin 7168), (y : S128x7168.Idx) = ix2 a b := ⟨y 0, y 1, by blk_ext []⟩
    subst hb
    exact (hX' _).trans (code_cell m c t a b)
  · refine ((rdat m c).withAfter after).arrAt_eq_of_covers 9 _ (by decide +kernel) fun t hf y => ?_
    obtain ⟨Y, _, hX⟩ := hL 9 t hf
    have hX' : ∀ y : S1x1x128.Idx, after 9 t y = diagSum (xAt m c t) (sAt m c t) (hAt m c t) 3 y := hX
    obtain ⟨b, hb⟩ : ∃ b : Fin 128, (y : S1x1x128.Idx) = ix3 0 0 b := ⟨y 2, by blk_ext []⟩
    subst hb
    exact (hX' _).trans (scale_cell m c t b)

end Cert.KernelIdeal.Val
-- ==== Proof.lean ====
module

public import proofs.«01_k».proof.Defs
public import proofs.«01_k».proof.Proof.Kernel.Run
public import proofs.«01_k».proof.Proof.KernelIdeal.Run
public import proofs.«01_k».proof.Proof.Gen.ReferenceIdeal.Frame
public import proofs.«01_k».proof.Proof.Gen.ReferenceIdeal.Value
public import proofs.«01_k».proof.Proof.Value.KernelArrays
public import Idealize.ShloMosaic.Adequacy
public import Idealize.ShloMosaic.Init

@[expose] public section

noncomputable section

namespace Cert.Proof

open Idealize.ShloMosaic Idealize.SL.Sem

/-- After every run of the ideal kernel its three results are the reference's results of the kernel's arguments, and the
arguments are as launched. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD,
        r.2.mem ((c.tc : Thread Cert.KernelIdeal.nD Cert.KernelIdeal.τ).loc Cert.KernelIdeal.main_v6_0) = Cert.KernelIdeal.Val.ref7 m c
        ∧ r.2.mem ((c.tc : Thread Cert.KernelIdeal.nD Cert.KernelIdeal.τ).loc Cert.KernelIdeal.main_v6_1) = Cert.KernelIdeal.Val.ref8 m c
        ∧ r.2.mem ((c.tc : Thread Cert.KernelIdeal.nD Cert.KernelIdeal.τ).loc Cert.KernelIdeal.main_v6_2) = Cert.KernelIdeal.Val.ref9 m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run _ _ _).mono (fun r h c =>
    have e := Cert.KernelIdeal.Val.results m r h.1.1 c
    ⟨e.1, e.2.1, e.2.2, h.2.1 c⟩) (θ_run_and (Cert.KernelIdeal.Run.run_main m g) (Cert.KernelIdeal.Run.frame m g))

/-- Over the extended reals the kernel and the reference compute the same three results. -/
theorem equal : Cert.algebraic_KernelIdeal_ReferenceIdeal (hKernelIdeal := Cert.KernelIdeal.Gen.facts) (hReferenceIdeal := Cert.ReferenceIdeal.Gen.facts) := by
  intro m g m' g' _ hargs
  refine ⟨Cert.KernelIdeal.Val.ref7 m, Cert.KernelIdeal.Val.ref8 m, Cert.KernelIdeal.Val.ref9 m, kernel_run m g,
    (θ_run _ _ _).mono (fun r h c => ?_) (Cert.ReferenceIdeal.Value.run (F := Ideal) m' g')⟩
  obtain ⟨h0, h1, h2, hk⟩ := h c
  obtain ⟨a0, a1, a2, a3, a4, a5, a6⟩ := hargs c
  rw [a0, a1, a2, a3, a4, a5, a6] at h0 h1 h2
  exact ⟨h0, h1, h2, hk⟩

/-- The claim: the three programs run to the end and leave their arguments, the constant that the ideal kernel names is
the exact `1 / 7168`, and the ideal kernel's results are the reference's. -/
theorem claim : Cert.Claim :=
  ⟨Cert.Kernel.Gen.facts, Cert.KernelIdeal.Gen.facts, Cert.ReferenceIdeal.Gen.facts,
    fun m ρ _ => Cert.Kernel.Run.frame m ρ,
    fun m ρ _ => Cert.KernelIdeal.Run.frame m ρ,
    fun m ρ _ => Cert.ReferenceIdeal.Gen.frame m ρ,
    IdealRules.named_const.statement Cert.KernelIdeal.κ "inv_d" .f32 0x39124925#32 _ rfl,
    equal⟩

end Cert.Proof

end

end
